-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 64]⟩ ⟨2, ![1024, 1024]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x64 : Shape := ⟨2, ![1024, 64]⟩
abbrev S4x64x1024 : Shape := ⟨3, ![4, 64, 1024]⟩
abbrev S4x3x64x1024 : Shape := ⟨4, ![4, 3, 64, 1024]⟩
abbrev S3 : Shape := ⟨1, ![3]⟩
abbrev S4 : Shape := ⟨1, ![4]⟩
abbrev S4x3 : Shape := ⟨2, ![4, 3]⟩
abbrev S_ : Shape := ⟨0, ![]⟩
abbrev S1x64x1024 : Shape := ⟨3, ![1, 64, 1024]⟩
abbrev S1 : Shape := ⟨1, ![1]⟩
abbrev S1x1 : Shape := ⟨2, ![1, 1]⟩
abbrev S1x1x64x1024 : Shape := ⟨4, ![1, 1, 64, 1024]⟩
abbrev S64x64 : Shape := ⟨2, ![64, 64]⟩

abbrev nBuf : Space → Nat
  | .hbm => 3
  | .vmem => 5
  | .smem => 0
  | _ => 0

abbrev bufTy : (tb : Table) → Fin (tcTables nBuf tb) → BufTy
  | .hbm, ⟨0, _⟩ => ⟨S64x1024, .bf16⟩
  | .hbm, ⟨1, _⟩ => ⟨S1024x64, .bf16⟩
  | .hbm, ⟨2, _⟩ => ⟨S1024x64, .f32⟩
  | .local _ .vmem, ⟨0, _⟩ => ⟨S64x1024, .bf16⟩
  | .local _ .vmem, ⟨1, _⟩ => ⟨S1024x64, .bf16⟩
  | .local _ .vmem, ⟨2, _⟩ => ⟨S1024x64, .f32⟩
  | .local _ .vmem, ⟨3, _⟩ => ⟨S4x64x1024, .bf16⟩
  | .local _ .vmem, ⟨4, _⟩ => ⟨S4x3x64x1024, .bf16⟩
  | _, _ => ⟨S64x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_15 : BitVec 32 := 1#32
  let v34 : BitVec 32 := Scalar.muli v24 c1_i32_15
  let v35 : BitVec 32 := Scalar.addi c0_i32_16 v34
  v35.toNat
def k0_dev2 (d0 : Dev nD) : Nat :=
  let c0_i32_19 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_18 : BitVec 32 := 1#32
  let v36 : BitVec 32 := Scalar.muli v28 c1_i32_18
  let v37 : BitVec 32 := Scalar.addi c0_i32_19 v36
  v37.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_21 : BitVec 32 := 1#32
  let v38 : BitVec 32 := Scalar.muli v30 c1_i32_21
  let v39 : BitVec 32 := Scalar.addi c0_i32_22 v38
  v39.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_13 : BitVec 32 := 16#32
  let v32 : BitVec 32 := Scalar.remsi v31 c16_i32_13
  let c1_i32_24 : BitVec 32 := 1#32
  let v40 : BitVec 32 := Scalar.muli v32 c1_i32_24
  let v41 : BitVec 32 := Scalar.addi c0_i32_25 v40
  v41.toNat
def k0_dev5 (d0 : Dev nD) : Nat :=
  let c0_i32_38 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_37 : BitVec 32 := 1#32
  let v49 : BitVec 32 := Scalar.muli v24 c1_i32_37
  let v50 : BitVec 32 := Scalar.addi c0_i32_38 v49
  v50.toNat
def k0_dev6 (d0 : Dev nD) : Nat :=
  let c0_i32_47 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_46 : BitVec 32 := 1#32
  let v59 : BitVec 32 := Scalar.muli v28 c1_i32_46
  let v60 : BitVec 32 := Scalar.addi c0_i32_47 v59
  v60.toNat
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_58 : BitVec 32 := 1#32
  let v69 : BitVec 32 := Scalar.muli v30 c1_i32_58
  let v70 : BitVec 32 := Scalar.addi c0_i32_59 v69
  v70.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_13 : BitVec 32 := 16#32
  let v32 : BitVec 32 := Scalar.remsi v31 c16_i32_13
  let c1_i32_70 : BitVec 32 := 1#32
  let v79 : BitVec 32 := Scalar.muli v32 c1_i32_70
  let v80 : BitVec 32 := Scalar.addi c0_i32_71 v79
  v80.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v94 : BitVec 32 := Scalar.muli v2 c64_i32
  let v95 : Index := Scalar.indexCast v94
  let c0_80 : Index := 0#32
  ![v95.toNat, 0]
def k0_dev9 (d0 : Dev nD) : Nat :=
  let c0_i32_96 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_95 : BitVec 32 := 1#32
  let v105 : BitVec 32 := Scalar.muli v24 c1_i32_95
  let v106 : BitVec 32 := Scalar.addi c0_i32_96 v105
  v106.toNat
def k0_dev10 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_107 : BitVec 32 := 1#32
  let v115 : BitVec 32 := Scalar.muli v30 c1_i32_107
  let v116 : BitVec 32 := Scalar.addi c0_i32_108 v115
  v116.toNat
def k0_dev11 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_13 : BitVec 32 := 16#32
  let v32 : BitVec 32 := Scalar.remsi v31 c16_i32_13
  let c1_i32_119 : BitVec 32 := 1#32
  let v125 : BitVec 32 := Scalar.muli v32 c1_i32_119
  let v126 : BitVec 32 := Scalar.addi c0_i32_120 v125
  v126.toNat
def k0_off2 (d0 : Dev nD) (c0_i32_125 : BitVec 32) (c3_i32_128 : BitVec 32) : Fin 2 → Nat :=
  let c4_i32_127 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v135 : BitVec 32 := Scalar.addi v20 c0_i32_125
  let c4_i32_126 : BitVec 32 := 4#32
  let v136 : BitVec 32 := Scalar.remsi v135 c4_i32_126
  let v137 : BitVec 32 := Scalar.muli c4_i32_127 v136
  let c4_i32 : BitVec 32 := 4#32
  let v3 : BitVec 32 := Scalar.remsi v2 c4_i32
  let v138 : BitVec 32 := Scalar.addi v3 c3_i32_128
  let c4_i32_129 : BitVec 32 := 4#32
  let v139 : BitVec 32 := Scalar.remsi v138 c4_i32_129
  let v140 : BitVec 32 := Scalar.addi v137 v139
  let c64_i32_134 : BitVec 32 := 64#32
  let v146 : BitVec 32 := Scalar.muli v140 c64_i32_134
  let v147 : Index := Scalar.indexCast v146
  let c0_135 : Index := 0#32
  ![v147.toNat, 0]
def k0_off2_at (r : Fin 15) : BitVec 32 × BitVec 32 :=
  if r.val < 7 then
    if r.val < 3 then
      if r.val < 1 then
        (0#32, 3#32)
      else
        if r.val < 2 then
          (0#32, 1#32)
        else
          (0#32, 2#32)
    else
      if r.val < 5 then
        if r.val < 4 then
          (3#32, 0#32)
        else
          (1#32, 0#32)
      else
        if r.val < 6 then
          (3#32, 3#32)
        else
          (1#32, 3#32)
  else
    if r.val < 11 then
      if r.val < 9 then
        if r.val < 8 then
          (3#32, 1#32)
        else
          (1#32, 1#32)
      else
        if r.val < 10 then
          (3#32, 2#32)
        else
          (1#32, 2#32)
    else
      if r.val < 13 then
        if r.val < 12 then
          (2#32, 0#32)
        else
          (2#32, 3#32)
      else
        if r.val < 14 then
          (2#32, 1#32)
        else
          (2#32, 2#32)
def k0_dev12 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_152 : BitVec 32 := 1#32
  let v157 : BitVec 32 := Scalar.muli v30 c1_i32_152
  let v158 : BitVec 32 := Scalar.addi c0_i32_153 v157
  v158.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_13 : BitVec 32 := 16#32
  let v32 : BitVec 32 := Scalar.remsi v31 c16_i32_13
  let c1_i32_164 : BitVec 32 := 1#32
  let v167 : BitVec 32 := Scalar.muli v32 c1_i32_164
  let v168 : BitVec 32 := Scalar.addi c0_i32_165 v167
  v168.toNat
def k0_dev14 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_197 : BitVec 32 := 1#32
  let v199 : BitVec 32 := Scalar.muli v30 c1_i32_197
  let v200 : BitVec 32 := Scalar.addi c0_i32_198 v199
  v200.toNat
def k0_dev15 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_13 : BitVec 32 := 16#32
  let v32 : BitVec 32 := Scalar.remsi v31 c16_i32_13
  let c1_i32_209 : BitVec 32 := 1#32
  let v209 : BitVec 32 := Scalar.muli v32 c1_i32_209
  let v210 : BitVec 32 := Scalar.addi c0_i32_210 v209
  v210.toNat
def k0_dev16 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_245 : BitVec 32 := 1#32
  let v241 : BitVec 32 := Scalar.muli v30 c1_i32_245
  let v242 : BitVec 32 := Scalar.addi c0_i32_246 v241
  v242.toNat
def k0_dev17 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.addi v2 c4_i32_11
  let c16_i32_12 : BitVec 32 := 16#32
  let v30 : BitVec 32 := Scalar.remsi v29 c16_i32_12
  let c1_i32_308 : BitVec 32 := 1#32
  let v295 : BitVec 32 := Scalar.muli v30 c1_i32_308
  let v296 : BitVec 32 := Scalar.addi c0_i32_309 v295
  v296.toNat
def k0_dev18 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_13 : BitVec 32 := 16#32
  let v32 : BitVec 32 := Scalar.remsi v31 c16_i32_13
  let c1_i32_396 : BitVec 32 := 1#32
  let v371 : BitVec 32 := Scalar.muli v32 c1_i32_396
  let v372 : BitVec 32 := Scalar.addi c0_i32_397 v371
  v372.toNat
def k0_dev19 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v31 : BitVec 32 := Scalar.addi v2 c12_i32
  let c16_i32_13 : BitVec 32 := 16#32
  let v32 : BitVec 32 := Scalar.remsi v31 c16_i32_13
  let c1_i32_459 : BitVec 32 := 1#32
  let v425 : BitVec 32 := Scalar.muli v32 c1_i32_459
  let v426 : BitVec 32 := Scalar.addi c0_i32_460 v425
  v426.toNat
abbrev stage0_0 : Fin 1 → Memref sig .tc .vmem S64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Protocol.lean ====
/-
# 01_k — the protocol: slots, transfers, cells, contents, schedule, dues and levels

Sixteen devices stand in a 4 × 4 grid: device `c` is number `c % 4` of plane `c / 4`. Each holds one block of 64 rows of
the left operand and needs all sixteen. The blocks travel into the SLOTS of two scratch buffers: the four slots `P i` hold
the blocks of the device's own plane, the twelve slots `Z j k` those of the other three planes. Fifteen transfers per
device carry them (`tsrc`, `tdst`, `ptgt`), each with a send cell on the issuing device and a receive cell on the target.
A barrier before the transfers hands every device the slots of its neighbours that it will write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The rounds of the kernel's own cells: a barrier cell has four duties, one per neighbour; a transfer's cell one. -/
abbrev UB : Type := URounds (GSem nD τ sig) (Fin 4)
/-- Beside the staging pipeline's rounds. -/
abbrev UU : Type := UR sig nD τ × UB

local notation "𝕄" => MT nD τ sig Unit (Elt F) ℕ UU ℕ

/-- Where the pipeline's rounds live. -/
abbrev EP : Emb (UR sig nD τ) (MT nD τ sig Unit (Elt F) ℕ UU ℕ) := embL
/-- Where the kernel's rounds live. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Neighbours -/

set_option backward.proofsInPublic true in
/-- The next device of the plane. -/
def qUp (c : Dev nD) : Dev nD := ⟨4 * (c.val / 4) + (c.val % 4 + 1) % 4, by have h : c.val < 16 := c.isLt; show _ < 16; omega⟩
set_option backward.proofsInPublic true in
/-- The previous device of the plane. -/
def qDn (c : Dev nD) : Dev nD := ⟨4 * (c.val / 4) + (c.val % 4 + 3) % 4, by have h : c.val < 16 := c.isLt; show _ < 16; omega⟩
set_option backward.proofsInPublic true in
/-- The device of the same number in the next plane. -/
def zUp (c : Dev nD) : Dev nD := ⟨(c.val + 4) % 16, Nat.mod_lt _ (by decide)⟩
set_option backward.proofsInPublic true in
/-- The device of the same number in the previous plane. -/
def zDn (c : Dev nD) : Dev nD := ⟨(c.val + 12) % 16, Nat.mod_lt _ (by decide)⟩

theorem qDn_qUp (c : Dev nD) : qDn (qUp c) = c := by revert c; decide
theorem qUp_qDn (c : Dev nD) : qUp (qDn c) = c := by revert c; decide
theorem zDn_zUp (c : Dev nD) : zDn (zUp c) = c := by revert c; decide
theorem zUp_zDn (c : Dev nD) : zUp (zDn c) = c := by revert c; decide

/-- The four neighbours as permutations of the devices. -/
def nbE : Fin 4 → (Dev nD ≃ Dev nD)
  | 0 => ⟨qUp, qDn, qDn_qUp, qUp_qDn⟩
  | 1 => ⟨qDn, qUp, qUp_qDn, qDn_qUp⟩
  | 2 => ⟨zUp, zDn, zDn_zUp, zUp_zDn⟩
  | 3 => ⟨zDn, zUp, zUp_zDn, zDn_zUp⟩

/-! ## Slots -/

/-- A slot: one of the four of the first scratch buffer or of the twelve of the second. -/
inductive Slot where
  | P (i : Fin 4)
  | Z (j : Fin 4) (k : Fin 3)

theorem inbP (i : Fin 4) : ∀ a, (![i.val, 0, 0] : Fin 3 → Nat) a + S1x64x1024.size a ≤ S4x64x1024.size a := by revert i; decide
theorem inbZ (j : Fin 4) (k : Fin 3) : ∀ a, (![j.val, k.val, 0, 0] : Fin 4 → Nat) a + S1x1x64x1024.size a ≤ S4x3x64x1024.size a := by
  revert j k; decide

/-- The first scratch buffer and the second. -/
abbrev pB : Memref sig .tc .vmem S4x64x1024 .bf16 := Memref.whole cc0_scratch0
@[inherit_doc pB] abbrev zB : Memref sig .tc .vmem S4x3x64x1024 .bf16 := Memref.whole cc0_scratch1

/-- Where a slot lies in its buffer. -/
abbrev pR (i : Fin 4) : Rect S4x64x1024 := Rect.unit (s := S4x64x1024) ![i.val, 0, 0] S1x64x1024.size (inbP i)
@[inherit_doc pR] abbrev zR (j : Fin 4) (k : Fin 3) : Rect S4x3x64x1024 :=
  Rect.unit (s := S4x3x64x1024) ![j.val, k.val, 0, 0] S1x1x64x1024.size (inbZ j k)

/-- A slot of the first buffer as a block of 64 rows, and one of the second. -/
abbrev pM (i : Fin 4) : Memref sig .tc .vmem S64x1024 .bf16 := (pB.slice (pR i) (fun _ => rfl)).squeeze S64x1024 squeezes_S1x64x1024_S64x1024
@[inherit_doc pM] abbrev zM (j : Fin 4) (k : Fin 3) : Memref sig .tc .vmem S64x1024 .bf16 :=
  (zB.slice (zR j k) (fun _ => rfl)).squeeze S64x1024 squeezes_S1x1x64x1024_S64x1024

/-- A slot as a block of 64 rows. -/
def slotM : Slot → Memref sig .tc .vmem S64x1024 .bf16
  | .P i => pM i
  | .Z j k => zM j k

/-- What a transfer of one slot adds to its two semaphores. -/
abbrev N : ℕ := (pM 0).view.dmaCredit
theorem N_pos : 0 < N := View.dmaCredit_pos _ (by decide)
theorem slot_credit (s : Slot) : (slotM s).view.dmaCredit = N := by cases s <;> rfl

/-- Whose block a slot of device `c` holds once it has arrived. -/
def org : Slot → Dev nD → Dev nD
  | .P i, c => ⟨4 * (c.val / 4 % 4) + (c.val % 4 + (![0, 3, 1, 2] : Fin 4 → Nat) i) % 4, by have h : c.val < 16 := c.isLt; show _ < 16; omega⟩
  | .Z j k, c => ⟨4 * ((c.val / 4 + (![3, 1, 2] : Fin 3 → Nat) k) % 4) + (c.val % 4 + (![0, 3, 1, 2] : Fin 4 → Nat) j) % 4, by have h : c.val < 16 := c.isLt; show _ < 16; omega⟩

/-! ## Transfers -/

/-- The slot a transfer reads on the issuing device: first the three within the plane, then the four to the next plane, the
    four to the previous plane, the four that pass an arrived block on. -/
def tsrc : Fin 15 → Slot
  | 0 => .P 0 | 1 => .P 0 | 2 => .P 1
  | 3 => .P 0 | 4 => .P 1 | 5 => .P 2 | 6 => .P 3
  | 7 => .P 0 | 8 => .P 1 | 9 => .P 2 | 10 => .P 3
  | 11 => .Z 0 0 | 12 => .Z 1 0 | 13 => .Z 2 1 | 14 => .Z 3 1

/-- The slot a transfer writes on its target. -/
def tdst : Fin 15 → Slot
  | 0 => .P 1 | 1 => .P 2 | 2 => .P 3
  | 3 => .Z 0 0 | 4 => .Z 1 0 | 5 => .Z 2 0 | 6 => .Z 3 0
  | 7 => .Z 0 1 | 8 => .Z 1 1 | 9 => .Z 2 1 | 10 => .Z 3 1
  | 11 => .Z 0 2 | 12 => .Z 1 2 | 13 => .Z 2 2 | 14 => .Z 3 2

/-- Which neighbour a transfer is addressed to. -/
def tnb : Fin 15 → Fin 4 := ![0, 1, 0, 2, 2, 2, 2, 3, 3, 3, 3, 2, 2, 3, 3]

/-- The share of the source a transfer is lent. -/
def tsh : Fin 15 → PosShare TreeShare
  | 0 => fullShare.right.left.left | 1 => fullShare.right.left.right | 2 => fullShare.right.left.left
  | 3 => fullShare.right.right.left | 4 => fullShare.right.left.right | 5 => fullShare.right.left | 6 => fullShare.right.left
  | 7 => fullShare.right.right.right | 8 => fullShare.right.right | 9 => fullShare.right.right | 10 => fullShare.right.right
  | 11 => fullShare.right | 12 => fullShare.right | 13 => fullShare.right | 14 => fullShare.right

/-- The transfers' send semaphores and receive semaphores. -/
def ssem : Fin 15 → DmaSem sig := ![3, 4, 5, 9, 10, 11, 12, 13, 14, 15, 16, 17, 18, 19, 20]
@[inherit_doc ssem] def rsem : Fin 15 → DmaSem sig := ![6, 7, 8, 21, 24, 27, 30, 22, 25, 28, 31, 23, 26, 29, 32]

/-- The level of a transfer's receive cell. -/
def rank : Fin 15 → ℕ := ![2, 2, 3, 4, 4, 4, 4, 4, 4, 4, 4, 5, 5, 5, 5]

/-- The block a transfer reads on `c` is the one its destination slot on the target is to hold. -/
theorem org_tdst (t : Fin 15) (c : Dev nD) : org (tdst t) (nbE (tnb t) c) = org (tsrc t) c := by revert c; revert t; decide

/-! ## Cells -/

/-- The runtime's barrier semaphore. -/
abbrev barS : Sem sig := (SemArray.scalar (sig.barrier 0 rfl) : Sems sig S_).sem

/-- A cell of a device: the barrier, or a transfer's send cell (`false`) or receive cell (`true`). -/
abbrev Cid : Type := Option (Bool × Fin 15)

/-- The semaphore of a cell. -/
def csem : Cid → SemLoc sig
  | none => .reg barS
  | some (false, t) => .dma (ssem t)
  | some (true, t) => .dma (rsem t)

/-- Which of these cells a DMA semaphore is. -/
def cidTab : Fin 33 → Option Cid :=
  ![none, none, none, some (some (false, 0)), some (some (false, 1)), some (some (false, 2)),
    some (some (true, 0)), some (some (true, 1)), some (some (true, 2)),
    some (some (false, 3)), some (some (false, 4)), some (some (false, 5)), some (some (false, 6)),
    some (some (false, 7)), some (some (false, 8)), some (some (false, 9)), some (some (false, 10)),
    some (some (false, 11)), some (some (false, 12)), some (some (false, 13)), some (some (false, 14)),
    some (some (true, 3)), some (some (true, 7)), some (some (true, 11)), some (some (true, 4)), some (some (true, 8)), some (some (true, 12)),
    some (some (true, 5)), some (some (true, 9)), some (some (true, 13)), some (some (true, 6)), some (some (true, 10)), some (some (true, 14))]

/-- Which of these cells a semaphore is. -/
def cidOf : SemLoc sig → Option Cid
  | .reg s => some none
  | .dma s => cidTab s

theorem cidOf_csem (i : Cid) : cidOf (csem i) = some i := by revert i; decide

theorem csem_injective : Function.Injective csem := fun i j h =>
  Option.some.inj ((cidOf_csem i).symm.trans ((congrArg cidOf h).trans (cidOf_csem j)))

/-- Cell `i` of device `c`. -/
abbrev cell (c : Dev nD) (i : Cid) : GSem nD τ sig := ((c : Thread nD τ), csem i)

/-- Device `c`'s barrier cell, its send cell and its receive cell of transfer `t`. -/
abbrev barC (c : Dev nD) : GSem nD τ sig := cell c none
@[inherit_doc barC] abbrev sndC (c : Dev nD) (t : Fin 15) : GSem nD τ sig := cell c (some (false, t))
@[inherit_doc barC] abbrev rcvC (c : Dev nD) (t : Fin 15) : GSem nD τ sig := cell c (some (true, t))

/-! ## Contents -/

/-- Device `c`'s block of the left operand, and its block of the right one. -/
def xv (c : Dev nD) : Vec F S64x1024 .bf16 := (win0_0.blk (0 : Fin 1)).view.read (Elt F) ((s₀ m ρ).mem ((c : Thread nD τ).loc main_arg0))
@[inherit_doc xv] def wv (c : Dev nD) : Vec F S1024x64 .bf16 := (win0_1.blk (0 : Fin 1)).view.read (Elt F) ((s₀ m ρ).mem ((c : Thread nD τ).loc main_arg1))

/-- A share of slot `s` of device `c`, holding the block `X`. -/
def holds (c : Dev nD) (s : Slot) (q : PosShare TreeShare) (X : Vec F S64x1024 .bf16) : sProp 𝕄 :=
  (slotM s).view.loc (c : Thread nD τ) ↦[(slotM s).view.set]{q} (slotM s).view.rep X

/-- A share of slot `s` of device `c`, holding the block it is to hold. -/
def arr (c : Dev nD) (s : Slot) (q : PosShare TreeShare) : sProp 𝕄 := holds c s q (xv m ρ (org s c))

/-- Slot `s` of device `c`, at any contents. -/
def free (c : Dev nD) (s : Slot) : sProp 𝕄 := iprop(∃ f, (slotM s).view.loc (c : Thread nD τ) ↦[(slotM s).view.set]{fullShare} f)

instance holds_storable (c : Dev nD) (s : Slot) (q) (X) : BI.Storable (upEmb : UEmb _ 𝕄) (holds (F := F) c s q X) := by unfold holds; infer_instance
instance arr_storable (c : Dev nD) (s : Slot) (q) : BI.Storable (upEmb : UEmb _ 𝕄) (arr (F := F) m ρ c s q) := by unfold arr; infer_instance
instance free_storable (c : Dev nD) (s : Slot) : BI.Storable (upEmb : UEmb _ 𝕄) (free (F := F) c s) := by unfold free; infer_instance

/-! ## The schedule -/

/-- The slot that transfer `t` of device `c` writes, on its target, at any contents. -/
def room (c : Dev nD) (t : Fin 15) : sProp 𝕄 := free (F := F) (nbE (tnb t) c) (tdst t)

instance room_storable (c : Dev nD) (t : Fin 15) : BI.Storable (upEmb : UEmb _ 𝕄) (room (F := F) c t) := by unfold room; infer_instance

/-- What duty `k` of device `c`'s barrier cell hands `c`: the slots of the neighbour who pays it that `c` is to write. -/
def barPay (c : Dev nD) : Fin 4 → sProp 𝕄
  | 0 => room c 1
  | 1 => iprop(room c 0 ∗ room c 2)
  | 2 => iprop(room c 7 ∗ room c 8 ∗ room c 9 ∗ room c 10 ∗ room c 13 ∗ room c 14)
  | 3 => iprop(room c 3 ∗ room c 4 ∗ room c 5 ∗ room c 6 ∗ room c 11 ∗ room c 12)

instance barPay_storable (c : Dev nD) (k : Fin 4) : BI.Storable (upEmb : UEmb _ 𝕄) (barPay (F := F) c k) := by
  fin_cases k <;> (unfold barPay; infer_instance)

/-- The schedule of one cell: its duties, their amount, their payload. -/
def dutiesOf : Option Cid → Finset (Fin 4)
  | some none => Finset.univ
  | some (some _) => {0}
  | none => ∅
@[inherit_doc dutiesOf] def amountOf : Option Cid → ℕ
  | some none => 1
  | some (some _) => N
  | none => 1
@[inherit_doc dutiesOf] def payloadOf (c : Dev nD) (k : Fin 4) : Option Cid → sProp 𝕄
  | some none => barPay c k
  | some (some (false, t)) => arr m ρ c (tsrc t) (tsh t)
  | some (some (true, t)) => arr m ρ c (tdst t) fullShare
  | none => iprop(emp)

theorem amountOf_pos (i : Option Cid) : 0 < amountOf i := by
  rcases i with _ | _ | i
  · exact Nat.one_pos
  · exact Nat.one_pos
  · exact N_pos

instance payloadOf_storable (c : Dev nD) (k : Fin 4) (i : Option Cid) : BI.Storable (upEmb : UEmb _ 𝕄) (payloadOf (F := F) m ρ c k i) := by
  rcases i with _ | _ | ⟨_ | _, t⟩ <;> (unfold payloadOf; infer_instance)

/-- One round, round 0. -/
def Rd : Rounds.Schedule (GSem nD τ sig) (Fin 4) 𝕄 where
  duties g r := if r = 0 ∧ g.1.2 = .tc then dutiesOf (cidOf g.2) else ∅
  unitless _ := False
  amount g _ _ := amountOf (cidOf g.2)
  payload g _ k := payloadOf m ρ g.1.1 k (cidOf g.2)
  amount_pos g _ _ _ := amountOf_pos _

instance Rd_payload_storable (g : GSem nD τ sig) (r : ℕ) (d : Fin 4) : BI.Storable (upEmb : UEmb _ 𝕄) ((Rd (F := F) m ρ).payload g r d) := by
  show BI.Storable upEmb (payloadOf m ρ g.1.1 d (cidOf g.2))
  infer_instance

section Sched
variable (c : Dev nD)

theorem duties_cell (i : Cid) : (Rd (F := F) m ρ).duties (cell c i) 0 = dutiesOf (some i) := by
  dsimp only [Rd]; rw [if_pos ⟨rfl, rfl⟩, cidOf_csem]
theorem duties_later (g : GSem nD τ sig) : ∀ r, 1 ≤ r → (Rd (F := F) m ρ).duties g r = ∅ :=
  fun r hr => by dsimp only [Rd]; rw [if_neg fun h => by omega]
theorem amount_cell (i : Cid) (k : Fin 4) : (Rd (F := F) m ρ).amount (cell c i) 0 k = amountOf (some i) := by dsimp only [Rd]; rw [cidOf_csem]
theorem payload_cell (i : Cid) (k : Fin 4) : (Rd (F := F) m ρ).payload (cell c i) 0 k = payloadOf m ρ c k (some i) := by dsimp only [Rd]; rw [cidOf_csem]

theorem expect_bar : (Rd (F := F) m ρ).expect (barC c) 0 = 4 := by
  unfold Schedule.expect Schedule.amountOf
  rw [duties_cell, Finset.sum_congr rfl fun d _ => amount_cell m ρ c none d]
  rfl
theorem expect_xfer (i : Bool × Fin 15) : (Rd (F := F) m ρ).expect (cell c (some i)) 0 = N := by
  unfold Schedule.expect Schedule.amountOf
  rw [duties_cell]
  exact (Finset.sum_singleton _ _).trans (amount_cell m ρ c (some i) 0)

/-- All of a barrier cell's payloads. -/
theorem rest_bar : bigSep ((Rd (F := F) m ρ).duties (barC c) 0 \ ∅) (fun d => (Rd (F := F) m ρ).payload (barC c) 0 d)
    = iprop(barPay c 0 ∗ barPay c 1 ∗ barPay c 2 ∗ barPay c 3) := by
  rw [Finset.sdiff_empty, duties_cell]
  refine (bigSep_univ_eq_bigSepL [0, 1, 2, 3] (by decide) (by decide) _).trans ?_
  rw [bigSepL_cons_cons, bigSepL_cons_cons, bigSepL_cons_cons, bigSepL_singleton]
  simp only [payload_cell, payloadOf]
  rfl
/-- A transfer's cell has one payload. -/
theorem rest_xfer (i : Bool × Fin 15) : bigSep ((Rd (F := F) m ρ).duties (cell c (some i)) 0 \ ∅) (fun d => (Rd (F := F) m ρ).payload (cell c (some i)) 0 d)
    = payloadOf m ρ c 0 (some (some i)) := by
  rw [Finset.sdiff_empty, duties_cell]
  exact bigSep_singleton.trans (payload_cell m ρ c (some i) 0)

end Sched

/-! ## What each device owes; the levels -/

/-- A payment: a barrier signal to one of the four neighbours, or a transfer's landing. -/
abbrev Pay : Type := Fin 4 ⊕ Fin 15

/-- Whom a payment goes to, which cell of theirs, which duty of it, how much. -/
def ptgt : Pay → (Dev nD ≃ Dev nD)
  | .inl k => nbE k
  | .inr t => nbE (tnb t)
@[inherit_doc ptgt] def pcid : Pay → Cid
  | .inl _ => none
  | .inr t => some (true, t)
@[inherit_doc ptgt] def pduty : Pay → Fin 4
  | .inl k => k
  | .inr _ => 0
@[inherit_doc ptgt] def pamt (p : Pay) : ℕ := amountOf (some (pcid p))

/-- What is owed for a payment device `c` makes. -/
def ptally (c : Dev nD) (p : Pay) : CellTallies nD τ sig Unit := tallyAt (cell (ptgt p c) (pcid p)) () (pamt p)

/-- What is owed for a list of payments, the first one summed last. -/
def owed (c : Dev nD) : List Pay → CellTallies nD τ sig Unit
  | [] => 0
  | p :: l => owed c l + ptally c p

/-- The order of the transfers. -/
def order : List Pay := [.inr 0, .inr 1, .inr 3, .inr 7, .inr 2, .inr 4, .inr 8, .inr 5, .inr 9, .inr 6, .inr 10, .inr 11, .inr 12, .inr 13, .inr 14]
/-- All payments in order: the four signals, then the transfers. -/
def allPays : List Pay := .inl 0 :: .inl 1 :: .inl 2 :: .inl 3 :: order

def L (g : GSem nD τ sig) : Finset Unit := if g.1.2 = .tc then {()} else ∅
/-- The level of a cell. -/
def lvOf : Option Cid → ℕ
  | some none => 1
  | some (some (true, t)) => rank t
  | some (some (false, _)) => 0
  | none => 0
def lv (g : GSem nD τ sig) (_ : Unit) : ℕ := lvOf (cidOf g.2)

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {l : List Pay} {g : GSem nD τ sig} {u : Unit} (h : 0 < owed c l g u) : ∃ p ∈ l, g = cell (ptgt p c) (pcid p) := by
  induction l with
  | nil => exact absurd h (Nat.lt_irrefl 0)
  | cons p l ih =>
    rw [owed, Pi.add_apply, Finsupp.add_apply] at h
    rcases Nat.add_pos_iff_pos_or_pos.mp h with h | h
    · obtain ⟨p', hp, e⟩ := ih h
      exact ⟨p', List.mem_cons_of_mem _ hp, e⟩
    · unfold ptally at h
      rw [tallyAt_apply] at h
      by_cases h' : g = cell (ptgt p c) (pcid p) ∧ u = ()
      · exact ⟨p, List.mem_cons_self, h'.1⟩
      · rw [if_neg h'] at h; exact absurd h (Nat.lt_irrefl 0)

/-- A wait at a semaphore is sound if its level is below that of every payment still owed. -/
theorem mayWait (c : Dev nD) (sm : SemLoc sig) (l : List Pay) (h : ∀ p ∈ l, lvOf (cidOf sm) < lvOf (some (pcid p))) :
    (levAts L lv : sProp 𝕄) ⊢ MayWait (c : Thread nD τ) sm () (owed c l) :=
  MayOwe.of_cut (L := L) (lev := lv) (lvOf (cidOf sm)) (fun p hp => by rw [Finset.mem_singleton.mp hp, L_tc]; exact Finset.mem_singleton_self _)
    (fun g u hg => by obtain ⟨p, -, rfl⟩ := owed_pos hg; exact Finset.mem_singleton_self _)
    (fun p hp => by rw [Finset.mem_singleton.mp hp]; exact le_rfl)
    (fun g u hg => by
      obtain ⟨p, hp, rfl⟩ := owed_pos hg
      show lvOf (cidOf sm) < lvOf (cidOf (csem (pcid p)))
      rw [cidOf_csem]; exact h p hp)

end Cert.Gather

end
-- ==== Proof.Rules.lean ====
/-
# 01_k — one rule per operation of the body

The operations of the body are of a few kinds: the signals to the neighbours, the wait on the barrier, the fifteen
transfers, the waits on their receive and send cells, the loads of a slot, the stores of a block of the result. Each kind is
stated once, for any transfer `t`, slot `s` and device `c`.
-/
module

public import proofs.«01_k».proof.Proof.Protocol
public import Idealize.ShloMosaic.Lib.VecWindow

@[expose] public section

set_option maxRecDepth 16384

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

variable (K : Dev nD × Cid → ℕ)

/-! ## What every device knows -/

/-- Every cell's invariant, and that its round 0 is reached. -/
def records : sProp 𝕄 := bigSep Finset.univ fun ck : Dev nD × Cid => iprop(cellInv ER (Rd m ρ) (K ck) (cell ck.1 ck.2) ∗ reached ER (cell ck.1 ck.2) 0)

instance records_persistent : BI.Persistent (records m ρ K) := by unfold records; infer_instance

/-- What every device knows: the cells' invariants, their rounds reached, the levels. -/
def know : sProp 𝕄 := iprop(records m ρ K ∗ levAts L lv)

instance know_persistent : BI.Persistent (know m ρ K) := by unfold know; infer_instance

theorem inv_at (c : Dev nD) (i : Cid) : know m ρ K ⊢ cellInv ER (Rd m ρ) (K (c, i)) (cell c i) := by
  have h : records m ρ K ⊢ iprop(cellInv ER (Rd m ρ) (K (c, i)) (cell c i) ∗ reached ER (cell c i) 0) := bigSep_elim (Finset.mem_univ (c, i))
  unfold know
  iintro ⟨H, -⟩
  ihave H' := h $$ H
  icases H' with ⟨H, -⟩
  iexact H

theorem reached_at (c : Dev nD) (i : Cid) : know m ρ K ⊢ reached ER (cell c i) 0 := by
  have h : records m ρ K ⊢ iprop(cellInv ER (Rd m ρ) (K (c, i)) (cell c i) ∗ reached ER (cell c i) 0) := bigSep_elim (Finset.mem_univ (c, i))
  unfold know
  iintro ⟨H, -⟩
  ihave H' := h $$ H
  icases H' with ⟨-, H⟩
  iexact H

theorem know_levels : know m ρ K ⊢ (levAts L lv : sProp 𝕄) := by
  unfold know
  iintro ⟨-, H⟩
  iexact H

/-! ## What a device holds -/

/-- Device `c` owes the payments `l`, whatever it waits for. -/
def dues (c : Dev nD) (l : List Pay) : sProp 𝕄 := iprop(∃ W, owes (c : Thread nD τ) (owed c l) W)

/-- Before a transfer: the tokens of its two duties and the position at its send cell. -/
def ready (c : Dev nD) (t : Fin 15) : sProp 𝕄 :=
  iprop(dutyTok ER (sndC c t) 0 0 ∗ dutyTok ER (rcvC (nbE (tnb t) c) t) 0 0 ∗ atPos ER (sndC c t) 0 ∅ 0)
/-- After it: the credit of its send cell and the position there. -/
def flying (c : Dev nD) (t : Fin 15) : sProp 𝕄 := iprop(cred (tallyAt (sndC c t) () N) ∗ atPos ER (sndC c t) 0 ∅ 0)
/-- Before a transfer's arrival: the credit of its receive cell and the position there. -/
def awaited (c : Dev nD) (t : Fin 15) : sProp 𝕄 := iprop(cred (tallyAt (rcvC c t) () N) ∗ atPos ER (rcvC c t) 0 ∅ 0)

/-- The proof obligation of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type}

/-! ## The schedule at the semaphores the program names -/

section Named
variable (c : Dev nD) (t : Fin 15) (k : Fin 4)

theorem duties_bar : (Rd (F := F) m ρ).duties ((c : Thread nD τ), .reg barS) 0 = Finset.univ := duties_cell m ρ c none
theorem payload_bar : (Rd (F := F) m ρ).payload ((c : Thread nD τ), .reg barS) 0 k = barPay c k := payload_cell m ρ c none k
theorem duties_send : (Rd (F := F) m ρ).duties ((c : Thread nD τ), .dma (ssem t)) 0 = {0} := duties_cell m ρ c (some (false, t))
theorem duties_recv : (Rd (F := F) m ρ).duties ((c : Thread nD τ), .dma (rsem t)) 0 = {0} := duties_cell m ρ c (some (true, t))
theorem payload_send : (Rd (F := F) m ρ).payload ((c : Thread nD τ), .dma (ssem t)) 0 0 = arr m ρ c (tsrc t) (tsh t) := payload_cell m ρ c (some (false, t)) 0
theorem payload_recv : (Rd (F := F) m ρ).payload ((c : Thread nD τ), .dma (rsem t)) 0 0 = arr m ρ c (tdst t) fullShare := payload_cell m ρ c (some (true, t)) 0
theorem amount_send : (Rd (F := F) m ρ).amount ((c : Thread nD τ), .dma (ssem t)) 0 0 = N := amount_cell m ρ c (some (false, t)) 0
theorem amount_recv : (Rd (F := F) m ρ).amount ((c : Thread nD τ), .dma (rsem t)) 0 0 = N := amount_cell m ρ c (some (true, t)) 0
theorem all_bar : bigSep ((Rd (F := F) m ρ).duties ((c : Thread nD τ), .reg barS) 0 \ ∅) (fun d => (Rd (F := F) m ρ).payload ((c : Thread nD τ), .reg barS) 0 d)
    = iprop(barPay c 0 ∗ barPay c 1 ∗ barPay c 2 ∗ barPay c 3) := rest_bar m ρ c
theorem all_send : bigSep ((Rd (F := F) m ρ).duties ((c : Thread nD τ), .dma (ssem t)) 0 \ ∅) (fun d => (Rd (F := F) m ρ).payload ((c : Thread nD τ), .dma (ssem t)) 0 d)
    = arr m ρ c (tsrc t) (tsh t) := rest_xfer m ρ c (false, t)
theorem all_recv : bigSep ((Rd (F := F) m ρ).duties ((c : Thread nD τ), .dma (rsem t)) 0 \ ∅) (fun d => (Rd (F := F) m ρ).payload ((c : Thread nD τ), .dma (rsem t)) 0 d)
    = arr m ρ c (tdst t) fullShare := rest_xfer m ρ c (true, t)

end Named

/-! ## The barrier -/

/-- A signal to neighbour `j`, paying duty `j` of its barrier cell: device `c` hands over the slots of its own that the neighbour is to write. -/
theorem wp_sig (j : Fin 4) (l : List Pay) {n : Dev nD} (hn : n = nbE j c) {s : Sem sig} (hs : s = barS) {k : PUnit → Prog (TpuEff nD τ sig (Elt F) Λ₀ .tc) α} {Q : α → sProp 𝕄} :
    iprop(know m ρ K ∗ dues c (.inl j :: l) ∗ dutyTok ER (barC (nbE j c)) 0 j ∗ barPay (nbE j c) j)
      ⊢ iprop((dues (F := F) c l -∗ WP c (k ⟨⟩) Q) -∗ WP c (.op (.semSignal (Dev.tc n : Thread nD τ) s 1) k) Q) := by
  subst hn; subst hs
  unfold dues
  iintro ⟨#HK, ⟨%W, Ho⟩, Ht, Hp⟩ Hk
  iapply (Rounds.wp_signal 𝒱₀ ER (Rd m ρ) (c : Thread nD τ) none (dst := (nbE j c : Thread nD τ)) (κ := K (nbE j c, none))
      (d := j) (k' := 1) (by rw [duties_bar]; exact Finset.mem_univ _) (amount_cell m ρ (nbE j c) none j) () (owed c l) rfl) $$ [Ho Ht Hp]
  · isplitr; · iapply (inv_at m ρ K (nbE j c) none); iexact HK
    isplitl [Ho]; · iexact Ho
    isplitl [Ht]; · iexact Ht
    isplitl [Hp]; · rw [payload_bar]; iexact Hp
    iapply (reached_at m ρ K (nbE j c) none); iexact HK
  iintro Ho
  iapply Hk
  iexists W; iexact Ho

/-- The wait for the four neighbours' signals: the slots that `c` is to write are its own, and the barrier cell is closed. -/
theorem wp_bar (l : List Pay) (hl : ∀ p ∈ l, 1 < lvOf (some (pcid p))) {s : Sem sig} (hs : s = barS) {k : PUnit → Prog (TpuEff nD τ sig (Elt F) Λ₀ .tc) α} {Q : α → sProp 𝕄} :
    iprop(know m ρ K ∗ dues c l ∗ cred (tallyAt (barC c) () 4) ∗ atPos ER (barC c) 0 ∅ 0)
      ⊢ iprop(((dues (F := F) c l ∗ semVal (barC c) 0 ∗ barPay c 0 ∗ barPay c 1 ∗ barPay c 2 ∗ barPay c 3) -∗ WP c (k ⟨⟩) Q)
        -∗ WP c (.op (.semWait s 4) k) Q) := by
  subst hs
  unfold dues
  iintro ⟨#HK, ⟨%W, Ho⟩, Hc, Ha⟩ Hk
  iapply (Rounds.wp_wait_rest_token 𝒱₀ ER (Rd m ρ) (c : Thread nD τ) none (κ := K (c, none))
      (wpE_semWait_eq 𝒱₀ (c : Thread nD τ) none Set.univ) (Set.mem_univ _) () (O := owed c l) (W := W) (R := 0) (m := 0) (T := ∅)
      (by rw [Nat.zero_add]; exact (expect_bar m ρ c).symm)) $$ [Hc Ho Ha]
  · isplitr; · iapply (inv_at m ρ K c none); iexact HK
    isplitl [Hc]; · iexact Hc
    isplitl [Ho]; · iexact Ho
    isplitr; · iapply (mayWait c (.reg barS) l hl); iapply (know_levels m ρ K); iexact HK
    iexact Ha
  iintro ⟨Ho, Ha, -, Hp⟩
  ihave Hp := (Entails.of_eq (all_bar m ρ c)) $$ Hp
  imod (Rounds.cell_close ER (Rd m ρ) (Set.mem_univ (K (c, none))) (fun h => h) (R := 0 + 1) (duties_later m ρ (barC c))) $$ [Ha] with Hz
  · isplitr; · iapply (inv_at m ρ K c none); iexact HK
    iexact Ha
  iapply Hk
  isplitl [Ho]; · iexists _; iexact Ho
  isplitl [Hz]; · iexact Hz
  iexact Hp

/-! ## The transfers -/

/-- Writing a slot whole with a block leaves it holding the block. -/
theorem holds_of_write (c : Dev nD) (s : Slot) (X : Vec F S64x1024 .bf16) (f : Buf (Elt F) ((slotM s).view.loc (c : Thread nD τ))) :
    ((slotM s).view.loc (c : Thread nD τ) ↦[(slotM s).view.set]{fullShare} ((slotM s).view.write (Elt F) f X Finset.univ) : sProp 𝕄)
      ⊢ holds c s fullShare X := by
  unfold holds
  exact pointsTo_rep_of_read (c : Thread nD τ) (slotM s) _ fullShare X (View.read_write_univ _ _)

/-- Issuing transfer `t`: the share of the source it is lent and the slot it writes go with it, its arrival is paid for. -/
theorem wp_go (t : Fin 15) (l : List Pay) {n : Dev nD} (hn : n = nbE (tnb t) c) {src dst : Memref sig .tc .vmem S64x1024 .bf16} (hs : src = slotM (tsrc t))
    (hd : dst = slotM (tdst t)) {sS sR : DmaSem sig} (hsS : sS = ssem t) (hsR : sR = rsem t)
    {hsc : (dst : Memref sig (Dev.tc n : Thread nD τ).2.kind .vmem S64x1024 .bf16).view.ref.isScScratch = false}
    {hsrc : src.view.WordExact} {hdst : dst.view.WordExact}
    {hsem : DmaTarget.Typed .vmem (.dma sR) (.remote (Dev.tc n : Thread nD τ) dst (.dma sS) hsc)} {k : PUnit → Prog (TpuEff nD τ sig (Elt F) Λ₀ .tc) α} {Q : α → sProp 𝕄} :
    iprop(know m ρ K ∗ dues c (.inr t :: l) ∗ ready c t ∗ arr m ρ c (tsrc t) (tsh t) ∗ room c t)
      ⊢ iprop(((dues (F := F) c l ∗ flying c t) -∗ WP c (k ⟨⟩) Q)
        -∗ WP c (.op (.enqueueDma src (.remote (Dev.tc n : Thread nD τ) dst (.dma sS) hsc) (.dma sR) hsrc hdst hsem) k) Q) := by
  subst hn; subst hs; subst hd; subst hsS; subst hsR
  unfold dues ready arr holds room free
  have hN : (slotM (tdst t)).view.amount (.dma (rsem t)) = N := slot_credit (tdst t)
  iintro ⟨#HK, ⟨%W, Ho⟩, ⟨Ht, Ht', Ha⟩, Hs, ⟨%f, Hd⟩⟩ Hk
  iapply (Rounds.wp_send_pointsTo 𝒱₀ ER (Rd m ρ) (c : Thread nD τ) none (κ₁ := K (c, some (false, t))) (κ₂ := K (nbE (tnb t) c, some (true, t)))
      (r₁ := 0) (r₂ := 0) (d₁ := 0) (d₂ := 0) (fd := f)
      (by rw [duties_send]; exact Finset.mem_singleton_self _)
      (by rw [duties_recv]; exact Finset.mem_singleton_self _)
      () () N hN (amount_send m ρ c t) (amount_recv m ρ (nbE (tnb t) c) t) (owed c l) rfl (W := W)
      (by rw [payload_send]; exact BI.Entails.refl _)
      (by
        rw [payload_recv, View.read_rep]
        refine (holds_of_write (nbE (tnb t) c) (tdst t) _ f).trans ?_
        unfold arr
        rw [org_tdst])) $$ [Ho Ht Ht' Hs Hd]
  · isplitr; · iapply (inv_at m ρ K c (some (false, t))); iexact HK
    isplitr; · iapply (inv_at m ρ K (nbE (tnb t) c) (some (true, t))); iexact HK
    isplitl [Hs]; · iexact Hs
    isplitl [Hd]; · iexact Hd
    isplitl [Ho]; · iexact Ho
    isplitl [Ht]; · iexact Ht
    isplitr; · iapply (reached_at m ρ K c (some (false, t))); iexact HK
    isplitl [Ht']; · iexact Ht'
    iapply (reached_at m ρ K (nbE (tnb t) c) (some (true, t))); iexact HK
  iintro ⟨Hc, Ho⟩
  iapply Hk
  isplitl [Ho]; · iexists W; iexact Ho
  unfold flying
  isplitl [Hc]; · iexact Hc
  iexact Ha

/-- The wait for the arrival of transfer `t`: its destination slot holds its block, and the receive cell is closed. -/
theorem wp_recv (t : Fin 15) (l : List Pay) (hl : ∀ p ∈ l, rank t < lvOf (some (pcid p))) {sR : DmaSem sig} (hsR : sR = rsem t)
    {s' : Shape} {e' : EltTy} {src : Memref sig .tc .vmem s' e'} {dst : Memref sig .tc .vmem S64x1024 .bf16} (hd : dst = slotM (tdst t))
    {hsrc : src.view.WordExact} {hdst : dst.view.WordExact} {k : PUnit → Prog (TpuEff nD τ sig (Elt F) Λ₀ .tc) α} {Q : α → sProp 𝕄} :
    iprop(know m ρ K ∗ dues c l ∗ awaited c t)
      ⊢ iprop(((dues (F := F) c l ∗ semVal (rcvC c t) 0 ∗ arr m ρ c (tdst t) fullShare) -∗ WP c (k ⟨⟩) Q)
        -∗ WP c (.op (.waitDma2 sR src dst hsrc hdst) k) Q) := by
  subst hsR; subst hd
  unfold dues awaited
  iintro ⟨#HK, ⟨%W, Ho⟩, Hc, Ha⟩ Hk
  iapply (Rounds.wp_wait_rest_token 𝒱₀ ER (Rd m ρ) (c : Thread nD τ) none (κ := K (c, some (true, t)))
      (wpE_waitDma2_eq 𝒱₀ (c : Thread nD τ) none Set.univ) (Set.mem_univ _) () (O := owed c l) (W := W) (R := 0) (m := 0) (T := ∅)
      (by rw [Nat.zero_add]; exact (slot_credit (tdst t)).trans (expect_xfer m ρ c (true, t)).symm)) $$ [Hc Ho Ha]
  · isplitr; · iapply (inv_at m ρ K c (some (true, t))); iexact HK
    isplitl [Hc]; · rw [slot_credit (tdst t)]; iexact Hc
    isplitl [Ho]; · iexact Ho
    isplitr
    · iapply (mayWait c (csem (some (true, t))) l (by rw [cidOf_csem]; exact hl)); iapply (know_levels m ρ K); iexact HK
    iexact Ha
  iintro ⟨Ho, Ha, -, Hp⟩
  ihave Hp := (Entails.of_eq (all_recv m ρ c t)) $$ Hp
  imod (Rounds.cell_close ER (Rd m ρ) (Set.mem_univ (K (c, some (true, t)))) (fun h => h) (R := 0 + 1) (duties_later m ρ (rcvC c t))) $$ [Ha] with Hz
  · isplitr; · iapply (inv_at m ρ K c (some (true, t))); iexact HK
    iexact Ha
  iapply Hk
  isplitl [Ho]; · iexists _; iexact Ho
  isplitl [Hz]; · iexact Hz
  iexact Hp

/-- The wait for the departure of transfer `t`, nothing owed: the share it was lent comes back, and the send cell is closed. -/
theorem wp_sent (t : Fin 15) {sS : DmaSem sig} (hsS : sS = ssem t)
    {s' : Shape} {e' : EltTy} {src : Memref sig .tc .vmem s' e'} {dst : Memref sig .tc .vmem S64x1024 .bf16} (hd : dst = slotM (tsrc t))
    {hsrc : src.view.WordExact} {hdst : dst.view.WordExact} {k : PUnit → Prog (TpuEff nD τ sig (Elt F) Λ₀ .tc) α} {Q : α → sProp 𝕄} :
    iprop(know m ρ K ∗ dues c [] ∗ flying c t)
      ⊢ iprop(((dues (F := F) c [] ∗ semVal (sndC c t) 0 ∗ arr m ρ c (tsrc t) (tsh t)) -∗ WP c (k ⟨⟩) Q)
        -∗ WP c (.op (.waitDma2 sS src dst hsrc hdst) k) Q) := by
  subst hsS; subst hd
  unfold dues flying
  iintro ⟨#HK, ⟨%W, Ho⟩, Hc, Ha⟩ Hk
  iapply (Rounds.wp_wait_rest_token 𝒱₀ ER (Rd m ρ) (c : Thread nD τ) none (κ := K (c, some (false, t)))
      (wpE_waitDma2_eq 𝒱₀ (c : Thread nD τ) none Set.univ) (Set.mem_univ _) () (O := owed c []) (W := W) (R := 0) (m := 0) (T := ∅)
      (by rw [Nat.zero_add]; exact (slot_credit (tsrc t)).trans (expect_xfer m ρ c (false, t)).symm)) $$ [Hc Ho Ha]
  · isplitr; · iapply (inv_at m ρ K c (some (false, t))); iexact HK
    isplitl [Hc]; · rw [slot_credit (tsrc t)]; iexact Hc
    isplitl [Ho]; · iexact Ho
    isplitr
    · iapply (mayWait c (csem (some (false, t))) [] (fun p hp => absurd hp List.not_mem_nil)); iapply (know_levels m ρ K); iexact HK
    iexact Ha
  iintro ⟨Ho, Ha, -, Hp⟩
  ihave Hp := (Entails.of_eq (all_send m ρ c t)) $$ Hp
  imod (Rounds.cell_close ER (Rd m ρ) (Set.mem_univ (K (c, some (false, t)))) (fun h => h) (R := 0 + 1) (duties_later m ρ (sndC c t))) $$ [Ha] with Hz
  · isplitr; · iapply (inv_at m ρ K c (some (false, t))); iexact HK
    iexact Ha
  iapply Hk
  isplitl [Ho]; · iexists _; iexact Ho
  isplitl [Hz]; · iexact Hz
  iexact Hp

end Cert.Gather

end
-- ==== Proof.Blocks.lean ====
/-
# 01_k — the slots and the blocks of the result

How a slot is loaded and filled, how it is lent in shares to the transfers that read it, how the two scratch buffers fall into
their slots, and how the sixteen stores fill the result one block of 64 rows at a time.
-/
module

public import proofs.«01_k».proof.Proof.Rules
public import Idealize.ShloMosaic.Lib.Ring
public import Idealize.ShloMosaic.Lib.Pipeline.Value

@[expose] public section

set_option maxRecDepth 16384

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## Loading and filling a slot -/

section Slots
variable {s₁ : Shape} (b : Ref sig .tc) (r : Rect b.ty.shape) (hr : ∀ a, r.stride a = 1) (hq : r.shape.Squeezes S64x1024)

/-- The squeezed slice's elements are the rectangle's. -/
theorem set_squeeze : (((Memref.whole b).slice r hr).squeeze S64x1024 hq).view.set = r.set :=
  (View.set_reshape _ _).trans (View.set_slice_whole b r)

end Slots

theorem slot_set (s : Slot) : (slotM s).view.set = match s with | .P i => (pR i).set | .Z j k => (zR j k).set := by
  cases s
  · exact set_squeeze cc0_scratch0 _ _ squeezes_S1x64x1024_S64x1024
  · exact set_squeeze cc0_scratch1 _ _ squeezes_S1x1x64x1024_S64x1024

theorem setOn_P (i : Fin 4) : pB.view.setOn (pR i).toLoadRect.set = (slotM (.P i)).view.set :=
  ((View.set_slice pB.view (pR i)).symm.trans (View.set_slice_whole cc0_scratch0 (pR i))).trans (slot_set (.P i)).symm
theorem setOn_Z (j : Fin 4) (k : Fin 3) : zB.view.setOn (zR j k).toLoadRect.set = (slotM (.Z j k)).view.set :=
  ((View.set_slice zB.view (zR j k)).symm.trans (View.set_slice_whole cc0_scratch1 (zR j k))).trans (slot_set (.Z j k)).symm

/-- A block as a slice of one slot of the first buffer, and of the second. -/
abbrev asP (X : Vec F S64x1024 .bf16) : Vec F S1x64x1024 .bf16 := shapeCast S1x64x1024 X shapeCasts_S64x1024_S1x64x1024
theorem shapeCasts_Z : Shape.ShapeCasts S64x1024 S1x1x64x1024 := by decide
@[inherit_doc asP] abbrev asZ (X : Vec F S64x1024 .bf16) : Vec F S1x1x64x1024 .bf16 := shapeCast S1x1x64x1024 X shapeCasts_Z

theorem read_P (i : Fin 4) (X : Vec F S64x1024 .bf16) :
    pB.view.readAt (Elt F) (pR i).toLoadRect ((pM i).view.rep X) = asP X := by
  have h := Memref.read_squeeze_slice (Val := Elt F) pB (pR i) (fun _ => rfl) squeezes_S1x64x1024_S64x1024 shapeCasts_S1x64x1024_S64x1024 ((pM i).view.rep X)
  rw [View.read_rep] at h
  exact ((congrArg asP h).trans (shapeCast_shapeCast _ _ _)).symm

theorem read_Z (j : Fin 4) (k : Fin 3) (X : Vec F S64x1024 .bf16) :
    zB.view.readAt (Elt F) (zR j k).toLoadRect ((zM j k).view.rep X) = asZ X := by
  have h := Memref.read_squeeze_slice (Val := Elt F) zB (zR j k) (fun _ => rfl) squeezes_S1x1x64x1024_S64x1024 shapeCasts_S1x1x64x1024_S64x1024 ((zM j k).view.rep X)
  rw [View.read_rep] at h
  exact ((congrArg asZ h).trans (shapeCast_shapeCast _ _ _)).symm

section Ops
variable {α : Type}

/-- Loading a slot of the first buffer reads its block. -/
theorem wp_load_P (i : Fin 4) (q : PosShare TreeShare) (X : Vec F S64x1024 .bf16) {off : Fin 3 → Nat} {inb} (hoff : off = ![i.val, 0, 0])
    {hl : pB.view.LoadsAt (Rect.unit (s := S4x64x1024) off S1x64x1024.size inb).toLoadRect}
    {k : Vec F S1x64x1024 .bf16 → Prog (TpuEff nD τ sig (Elt F) Λ₀ .tc) α} {Q : α → sProp 𝕄} :
    (holds c (.P i) q X : sProp 𝕄)
      ⊢ iprop((holds c (.P i) q X -∗ WP c (k (asP X)) Q)
        -∗ WP c (.op (.load pB (Rect.unit (s := S4x64x1024) off S1x64x1024.size inb).toLoadRect hl) k) Q) := by
  subst hoff
  unfold holds
  have h := wp_load (defs := defs₀ (F := F)) (Γ := []) (Q := Q) 𝒱₀ (c : Thread nD τ) none Set.univ (m := pB) (r := (pR i).toLoadRect) (hl := hl) (k := k) (S := (slotM (.P i)).view.set) (q := q)
    (f := (slotM (.P i)).view.rep X) (setOn_P i).le
  rw [show pB.view.readAt (Elt F) (pR i).toLoadRect ((slotM (.P i)).view.rep X) = asP X from read_P i X] at h
  exact h

/-- Loading a slot of the second buffer reads its block. -/
theorem wp_load_Z (j : Fin 4) (k' : Fin 3) (q : PosShare TreeShare) (X : Vec F S64x1024 .bf16) {off : Fin 4 → Nat} {inb} (hoff : off = ![j.val, k'.val, 0, 0])
    {hl : zB.view.LoadsAt (Rect.unit (s := S4x3x64x1024) off S1x1x64x1024.size inb).toLoadRect}
    {k : Vec F S1x1x64x1024 .bf16 → Prog (TpuEff nD τ sig (Elt F) Λ₀ .tc) α} {Q : α → sProp 𝕄} :
    (holds c (.Z j k') q X : sProp 𝕄)
      ⊢ iprop((holds c (.Z j k') q X -∗ WP c (k (asZ X)) Q)
        -∗ WP c (.op (.load zB (Rect.unit (s := S4x3x64x1024) off S1x1x64x1024.size inb).toLoadRect hl) k) Q) := by
  subst hoff
  unfold holds
  have h := wp_load (defs := defs₀ (F := F)) (Γ := []) (Q := Q) 𝒱₀ (c : Thread nD τ) none Set.univ (m := zB) (r := (zR j k').toLoadRect) (hl := hl) (k := k) (S := (slotM (.Z j k')).view.set) (q := q)
    (f := (slotM (.Z j k')).view.rep X) (setOn_Z j k').le
  rw [show zB.view.readAt (Elt F) (zR j k').toLoadRect ((slotM (.Z j k')).view.rep X) = asZ X from read_Z j k' X] at h
  exact h

/-- Loading a slot of the first buffer at whatever it holds. -/
theorem wp_peek_P (i : Fin 4) {off : Fin 3 → Nat} {inb} (hoff : off = ![i.val, 0, 0])
    {hl : pB.view.LoadsAt (Rect.unit (s := S4x64x1024) off S1x64x1024.size inb).toLoadRect}
    {k : Vec F S1x64x1024 .bf16 → Prog (TpuEff nD τ sig (Elt F) Λ₀ .tc) α} {Q : α → sProp 𝕄} :
    (free c (.P i) : sProp 𝕄)
      ⊢ iprop((∀ v, free (F := F) c (.P i) -∗ WP c (k v) Q)
        -∗ WP c (.op (.load pB (Rect.unit (s := S4x64x1024) off S1x64x1024.size inb).toLoadRect hl) k) Q) := by
  subst hoff
  unfold free
  iintro ⟨%f, H⟩ Hk
  have h := wp_load (defs := defs₀ (F := F)) (Γ := []) (Q := Q) 𝒱₀ (c : Thread nD τ) none Set.univ (m := pB) (r := (pR i).toLoadRect) (hl := hl) (k := k) (S := (slotM (.P i)).view.set) (q := fullShare)
    (f := f) (setOn_P i).le
  iapply h $$ [H]
  · iexact H
  iintro H
  iapply Hk
  iexists f
  iexact H

/-- Storing a block into a slot of the first buffer fills it. -/
theorem wp_fill_P (i : Fin 4) (X : Vec F S64x1024 .bf16) {off : Fin 3 → Nat} {inb} (hoff : off = ![i.val, 0, 0])
    {w : Vec F S1x64x1024 .bf16} (hw : w = asP X)
    {hx : (pB.access (Rect.unit (s := S4x64x1024) off S1x64x1024.size inb)).Stores Finset.univ}
    {hm : (Finset.univ : Finset (Rect.unit (s := S4x64x1024) off S1x64x1024.size inb).shape.Idx) = Finset.univ ∨ ∀ a, (Rect.unit (s := S4x64x1024) off S1x64x1024.size inb).stride a = 1}
    {k : PUnit → Prog (TpuEff nD τ sig (Elt F) Λ₀ .tc) α} {Q : α → sProp 𝕄} :
    (free c (.P i) : sProp 𝕄)
      ⊢ iprop((holds c (.P i) fullShare X -∗ WP c (k ⟨⟩) Q)
        -∗ WP c (.op (.store pB (Rect.unit (s := S4x64x1024) off S1x64x1024.size inb) w Finset.univ hx hm) k) Q) := by
  subst hoff; subst hw
  unfold free
  iintro ⟨%f, H⟩ Hk
  have h := wp_store (defs := defs₀ (F := F)) (Γ := []) (Q := Q) 𝒱₀ (c : Thread nD τ) none Set.univ (m := pB) (r := pR i) (w := asP X) (Mk := Finset.univ) (hx := hx) (hm := hm) (k := k)
    (S := (slotM (.P i)).view.set) (f := f) (by rw [slot_set, View.setOn_univ]; exact (View.set_slice_whole cc0_scratch0 (pR i)).le)
  iapply h $$ [H]
  · iexact H
  iintro H
  iapply Hk
  unfold holds
  iapply (pointsTo_rep_of_read (c : Thread nD τ) (slotM (.P i)) ((pB.access (pR i)).write (Elt F) f (asP X) Finset.univ) fullShare X (by
    refine (Memref.read_squeeze_slice (Val := Elt F) pB (pR i) (fun _ => rfl) squeezes_S1x64x1024_S64x1024 shapeCasts_S1x64x1024_S64x1024 _).trans ?_
    rw [View.readAt_rect]
    refine (congrArg (fun v => shapeCast S64x1024 v shapeCasts_S1x64x1024_S64x1024) (View.read_write_univ (v := pB.access (pR i)) f (asP X))).trans ?_
    exact shapeCast_shapeCast _ _ _))
  iexact H

end Ops

/-! ## Lending a slot to the transfers that read it -/

theorem arr_split (s : Slot) (q : PosShare TreeShare) : (arr m ρ c s q : sProp 𝕄) ⊢ iprop(arr m ρ c s q.left ∗ arr m ρ c s q.right) :=
  (pointsTo_share (PosShare.mem_left_op_right q)).1
theorem arr_join (s : Slot) (q : PosShare TreeShare) : iprop(arr m ρ c s q.left ∗ arr m ρ c s q.right) ⊢ (arr m ρ c s q : sProp 𝕄) :=
  (pointsTo_share (PosShare.mem_left_op_right q)).2

/-- What a device keeps of a slot while transfers read it. -/
abbrev kept (s : Slot) : sProp 𝕄 := arr m ρ c s fullShare.left
/-- The share transfer `t` is lent of its source. -/
abbrev lent (t : Fin 15) : sProp 𝕄 := arr m ρ c (tsrc t) (tsh t)

theorem lend_P0 : (arr m ρ c (.P 0) fullShare : sProp 𝕄) ⊢ iprop(kept m ρ c (.P 0) ∗ lent m ρ c 0 ∗ lent m ρ c 1 ∗ lent m ρ c 3 ∗ lent m ρ c 7) := by
  iintro H
  ihave H := (arr_split m ρ c (.P 0) fullShare) $$ H
  icases H with ⟨Hk, H⟩
  ihave H := (arr_split m ρ c (.P 0) fullShare.right) $$ H
  icases H with ⟨Hl, Hr⟩
  ihave Hl := (arr_split m ρ c (.P 0) fullShare.right.left) $$ Hl
  ihave Hr := (arr_split m ρ c (.P 0) fullShare.right.right) $$ Hr
  icases Hl with ⟨H0, H1⟩
  icases Hr with ⟨H3, H7⟩
  isplitl [Hk]; · iexact Hk
  isplitl [H0]; · iexact H0
  isplitl [H1]; · iexact H1
  isplitl [H3]; · iexact H3
  iexact H7
theorem back_P0 : iprop(kept m ρ c (.P 0) ∗ lent m ρ c 0 ∗ lent m ρ c 1 ∗ lent m ρ c 3 ∗ lent m ρ c 7) ⊢ (arr m ρ c (.P 0) fullShare : sProp 𝕄) := by
  iintro ⟨Hk, H0, H1, H3, H7⟩
  iapply (arr_join m ρ c (.P 0) fullShare)
  isplitl [Hk]; · iexact Hk
  iapply (arr_join m ρ c (.P 0) fullShare.right)
  isplitl [H0 H1]
  · iapply (arr_join m ρ c (.P 0) fullShare.right.left)
    isplitl [H0]; · iexact H0
    iexact H1
  iapply (arr_join m ρ c (.P 0) fullShare.right.right)
  isplitl [H3]; · iexact H3
  iexact H7

theorem lend_P1 : (arr m ρ c (.P 1) fullShare : sProp 𝕄) ⊢ iprop(kept m ρ c (.P 1) ∗ lent m ρ c 2 ∗ lent m ρ c 4 ∗ lent m ρ c 8) := by
  iintro H
  ihave H := (arr_split m ρ c (.P 1) fullShare) $$ H
  icases H with ⟨Hk, H⟩
  ihave H := (arr_split m ρ c (.P 1) fullShare.right) $$ H
  icases H with ⟨Hl, Hr⟩
  ihave Hl := (arr_split m ρ c (.P 1) fullShare.right.left) $$ Hl
  icases Hl with ⟨H2, H4⟩
  isplitl [Hk]; · iexact Hk
  isplitl [H2]; · iexact H2
  isplitl [H4]; · iexact H4
  iexact Hr
theorem back_P1 : iprop(kept m ρ c (.P 1) ∗ lent m ρ c 2 ∗ lent m ρ c 4 ∗ lent m ρ c 8) ⊢ (arr m ρ c (.P 1) fullShare : sProp 𝕄) := by
  iintro ⟨Hk, H2, H4, H8⟩
  iapply (arr_join m ρ c (.P 1) fullShare)
  isplitl [Hk]; · iexact Hk
  iapply (arr_join m ρ c (.P 1) fullShare.right)
  isplitl [H2 H4]
  · iapply (arr_join m ρ c (.P 1) fullShare.right.left)
    isplitl [H2]; · iexact H2
    iexact H4
  iexact H8

theorem lend_P2 : (arr m ρ c (.P 2) fullShare : sProp 𝕄) ⊢ iprop(kept m ρ c (.P 2) ∗ lent m ρ c 5 ∗ lent m ρ c 9) := by
  iintro H
  ihave H := (arr_split m ρ c (.P 2) fullShare) $$ H
  icases H with ⟨Hk, H⟩
  ihave H := (arr_split m ρ c (.P 2) fullShare.right) $$ H
  icases H with ⟨Hl, Hr⟩
  isplitl [Hk]; · iexact Hk
  isplitl [Hl]; · iexact Hl
  iexact Hr
theorem back_P2 : iprop(kept m ρ c (.P 2) ∗ lent m ρ c 5 ∗ lent m ρ c 9) ⊢ (arr m ρ c (.P 2) fullShare : sProp 𝕄) := by
  iintro ⟨Hk, Hl, Hr⟩
  iapply (arr_join m ρ c (.P 2) fullShare)
  isplitl [Hk]; · iexact Hk
  iapply (arr_join m ρ c (.P 2) fullShare.right)
  isplitl [Hl]; · iexact Hl
  iexact Hr
theorem lend_P3 : (arr m ρ c (.P 3) fullShare : sProp 𝕄) ⊢ iprop(kept m ρ c (.P 3) ∗ lent m ρ c 6 ∗ lent m ρ c 10) := by
  iintro H
  ihave H := (arr_split m ρ c (.P 3) fullShare) $$ H
  icases H with ⟨Hk, H⟩
  ihave H := (arr_split m ρ c (.P 3) fullShare.right) $$ H
  icases H with ⟨Hl, Hr⟩
  isplitl [Hk]; · iexact Hk
  isplitl [Hl]; · iexact Hl
  iexact Hr
theorem back_P3 : iprop(kept m ρ c (.P 3) ∗ lent m ρ c 6 ∗ lent m ρ c 10) ⊢ (arr m ρ c (.P 3) fullShare : sProp 𝕄) := by
  iintro ⟨Hk, Hl, Hr⟩
  iapply (arr_join m ρ c (.P 3) fullShare)
  isplitl [Hk]; · iexact Hk
  iapply (arr_join m ρ c (.P 3) fullShare.right)
  isplitl [Hl]; · iexact Hl
  iexact Hr

/-- The four slots that are passed on: half of each goes with the transfer. -/
theorem lend_Z (t : Fin 15) (h : tsh t = fullShare.right) : (arr m ρ c (tsrc t) fullShare : sProp 𝕄) ⊢ iprop(kept m ρ c (tsrc t) ∗ lent m ρ c t) := by
  unfold lent; rw [h]; exact arr_split m ρ c (tsrc t) fullShare
theorem back_Z (t : Fin 15) (h : tsh t = fullShare.right) : iprop(kept m ρ c (tsrc t) ∗ lent m ρ c t) ⊢ (arr m ρ c (tsrc t) fullShare : sProp 𝕄) := by
  unfold lent; rw [h]; exact arr_join m ρ c (tsrc t) fullShare

/-- A slot whose block is forgotten. -/
theorem arr_free (s : Slot) : (arr m ρ c s fullShare : sProp 𝕄) ⊢ free c s := by
  unfold arr holds free
  iintro H
  iexists _
  iexact H

/-! ## The scratch buffers and their slots -/

theorem P_disjoint (i i' : Fin 4) (h : i ≠ i') : Disjoint (pR i).set (pR i').set :=
  Ring.lead_disjoint (s := S4x64x1024) 0 1 (fun i : Fin 4 => ![i.val, 0, 0]) S1x64x1024.size inbP (fun b => (Nat.one_mul _).symm) rfl i i' h
theorem P_cover : Finset.univ.biUnion (fun i => (pR i).set) = Finset.univ :=
  Ring.lead_cover (s := S4x64x1024) 0 1 (fun i : Fin 4 => ![i.val, 0, 0]) S1x64x1024.size inbP (fun b => (Nat.one_mul _).symm)
    (fun b a ha => by fin_cases a <;> first | rfl | exact absurd rfl ha) rfl (fun a ha => by fin_cases a <;> first | rfl | exact absurd rfl ha) rfl

theorem Z_disjoint (x x' : Fin 4 × Fin 3) (h : x ≠ x') : Disjoint (zR x.1 x.2).set (zR x'.1 x'.2).set := by
  rw [Finset.disjoint_left]
  intro i hi hi'
  have h1 := Rect.mem_set_unit.mp hi
  have h2 := Rect.mem_set_unit.mp hi'
  have a0 := h1 0; have a1 := h1 1; have b0 := h2 0; have b1 := h2 1
  simp only [S1x1x64x1024, Matrix.cons_val_zero, Matrix.cons_val_one] at a0 a1 b0 b1
  exact h (Prod.ext (Fin.ext (by omega)) (Fin.ext (by omega)))
theorem Z_cover : Finset.univ.biUnion (fun x : Fin 4 × Fin 3 => (zR x.1 x.2).set) = Finset.univ := by
  ext i
  simp only [Finset.mem_biUnion, Finset.mem_univ, true_and, iff_true]
  refine ⟨(⟨(i 0).val, (i 0).isLt⟩, ⟨(i 1).val, (i 1).isLt⟩), Rect.mem_set_unit.mpr fun a => ?_⟩
  have ha := (i a).isLt
  fin_cases a
  · exact ⟨le_rfl, Nat.lt_succ_self _⟩
  · exact ⟨le_rfl, Nat.lt_succ_self _⟩
  · exact ⟨Nat.zero_le _, by simpa using ha⟩
  · exact ⟨Nat.zero_le _, by simpa using ha⟩

/-- A slot's elements of its buffer, at any contents, are the slot. -/
theorem free_P (i : Fin 4) (f : Buf (Elt F) ((c : Thread nD τ).loc cc0_scratch0)) :
    (((c : Thread nD τ).loc cc0_scratch0) ↦[(pR i).set]{fullShare} f : sProp 𝕄) ⊢ free (F := F) c (.P i) := by
  unfold free; rw [slot_set]; iintro H; iexists f; iexact H
@[inherit_doc free_P] theorem free_Z (j : Fin 4) (k : Fin 3) (f : Buf (Elt F) ((c : Thread nD τ).loc cc0_scratch1)) :
    (((c : Thread nD τ).loc cc0_scratch1) ↦[(zR j k).set]{fullShare} f : sProp 𝕄) ⊢ free (F := F) c (.Z j k) := by
  unfold free; rw [slot_set]; iintro H; iexists f; iexact H

/-- The scratch buffers are their slots. -/
theorem split_P : iprop(∃ f : Buf (Elt F) ((c : Thread nD τ).loc cc0_scratch0), ((c : Thread nD τ).loc cc0_scratch0) ↦{fullShare} f)
    ⊢ (bigSep Finset.univ fun i : Fin 4 => free (F := F) c (.P i)) := by
  iintro ⟨%f, H⟩
  have h : (((c : Thread nD τ).loc cc0_scratch0) ↦{fullShare} f : sProp 𝕄) = bigSep Finset.univ fun i : Fin 4 => (((c : Thread nD τ).loc cc0_scratch0) ↦[(pR i).set]{fullShare} f) := by
    rw [← pointsTo_biUnion (ℓ := (c : Thread nD τ).loc cc0_scratch0) (q := fullShare) (f := f) Finset.univ (fun i : Fin 4 => (pR i).set) (fun i _ i' _ h => P_disjoint i i' h), P_cover]
  ihave H := (Entails.of_eq h) $$ H
  have h' : (bigSep Finset.univ fun i : Fin 4 => (((c : Thread nD τ).loc cc0_scratch0) ↦[(pR i).set]{fullShare} f : sProp 𝕄)) ⊢ bigSep Finset.univ fun i : Fin 4 => free (F := F) c (.P i) :=
    bigSep_mono fun i _ => free_P c i f
  iapply h'
  iexact H

theorem split_Z : iprop(∃ f : Buf (Elt F) ((c : Thread nD τ).loc cc0_scratch1), ((c : Thread nD τ).loc cc0_scratch1) ↦{fullShare} f)
    ⊢ (bigSep Finset.univ fun x : Fin 4 × Fin 3 => free (F := F) c (.Z x.1 x.2)) := by
  iintro ⟨%f, H⟩
  have h : (((c : Thread nD τ).loc cc0_scratch1) ↦{fullShare} f : sProp 𝕄) = bigSep Finset.univ fun x : Fin 4 × Fin 3 => (((c : Thread nD τ).loc cc0_scratch1) ↦[(zR x.1 x.2).set]{fullShare} f) := by
    rw [← pointsTo_biUnion (ℓ := (c : Thread nD τ).loc cc0_scratch1) (q := fullShare) (f := f) Finset.univ (fun x : Fin 4 × Fin 3 => (zR x.1 x.2).set) (fun i _ i' _ h => Z_disjoint i i' h), Z_cover]
  ihave H := (Entails.of_eq h) $$ H
  have h' : (bigSep Finset.univ fun x : Fin 4 × Fin 3 => (((c : Thread nD τ).loc cc0_scratch1) ↦[(zR x.1 x.2).set]{fullShare} f : sProp 𝕄)) ⊢ bigSep Finset.univ fun x : Fin 4 × Fin 3 => free (F := F) c (.Z x.1 x.2) :=
    bigSep_mono fun x _ => free_Z c x.1 x.2 f
  iapply h'
  iexact H

/-- The slots make up the scratch buffers again. -/
theorem join_P : (bigSep Finset.univ fun i : Fin 4 => free (F := F) c (.P i))
    ⊢ iprop(∃ f : Buf (Elt F) ((c : Thread nD τ).loc cc0_scratch0), ((c : Thread nD τ).loc cc0_scratch0) ↦{fullShare} f) := by
  have e : (fun i : Fin 4 => free (F := F) c (.P i)) = fun i : Fin 4 => (iprop(∃ f : Buf (Elt F) ((c : Thread nD τ).loc cc0_scratch0), ((c : Thread nD τ).loc cc0_scratch0) ↦[(pR i).set]{fullShare} f) : sProp 𝕄) :=
    funext fun i => by unfold free; rw [slot_set]; rfl
  rw [e]
  refine (bigSep_exists_pi _ _).trans ?_
  iintro ⟨%fs, H⟩
  have h := pointsTo_biUnion_join (nD := nD) (τ := τ) (sig := sig) (Ix := Unit) (Val := Elt F) (Name := ℕ) (U := UU) (Lvl := ℕ) (ℓ := (c : Thread nD τ).loc cc0_scratch0) (q := fullShare)
    Finset.univ (fun i : Fin 4 => (pR i).set) fs (fs 0) (fun i _ i' _ h => P_disjoint i i' h)
  rw [P_cover] at h
  ihave H' := h $$ H
  icases H' with ⟨%g, -, H⟩
  iexists g
  iexact H
@[inherit_doc join_P] theorem join_Z : (bigSep Finset.univ fun x : Fin 4 × Fin 3 => free (F := F) c (.Z x.1 x.2))
    ⊢ iprop(∃ f : Buf (Elt F) ((c : Thread nD τ).loc cc0_scratch1), ((c : Thread nD τ).loc cc0_scratch1) ↦{fullShare} f) := by
  have e : (fun x : Fin 4 × Fin 3 => free (F := F) c (.Z x.1 x.2)) = fun x : Fin 4 × Fin 3 => (iprop(∃ f : Buf (Elt F) ((c : Thread nD τ).loc cc0_scratch1), ((c : Thread nD τ).loc cc0_scratch1) ↦[(zR x.1 x.2).set]{fullShare} f) : sProp 𝕄) :=
    funext fun i => by unfold free; rw [slot_set]; rfl
  rw [e]
  refine (bigSep_exists_pi _ _).trans ?_
  iintro ⟨%fs, H⟩
  have h := pointsTo_biUnion_join (nD := nD) (τ := τ) (sig := sig) (Ix := Unit) (Val := Elt F) (Name := ℕ) (U := UU) (Lvl := ℕ) (ℓ := (c : Thread nD τ).loc cc0_scratch1) (q := fullShare)
    Finset.univ (fun x : Fin 4 × Fin 3 => (zR x.1 x.2).set) fs (fs (0, 0)) (fun i _ i' _ h => Z_disjoint i i' h)
  rw [Z_cover] at h
  ihave H' := h $$ H
  icases H' with ⟨%g, -, H⟩
  iexists g
  iexact H

/-! ## The blocks of the result -/

/-- The product of a block with the device's weights, cut off below at zero: what is stored for the block. -/
def gemm (w : FVec F S1024x64 .bf16) (X : Vec F S64x1024 .bf16) : Vec F S64x64 .f32 :=
  maximumf (matmul dot_S64x1024_S1024x64_S64x64_1_0_0_1_n_n none X w (constant S64x64 .f32 0x00000000#32)) (broadcast S64x64 (Scalar.ofBits .f32 0x00000000#32))

section Pays
variable (w : FVec F S1024x64 .bf16) (X : Vec F S64x1024 .bf16)

theorem pay1_eq : k0_pay1 w = w := shapeCast_self _ _
theorem pay2_eq : k0_pay2 X = asP X := by unfold k0_pay2; rw [shapeCast_self]
theorem pay3_eq : k0_pay3 w (asP X) = gemm w X := by unfold k0_pay3 gemm; dsimp only; rw [shapeCast_shapeCast]
theorem pay4_eq : k0_pay4 w (asP X) = gemm w X := by unfold k0_pay4 gemm; dsimp only; rw [shapeCast_shapeCast]
theorem pay5_eq : k0_pay5 w (asP X) = gemm w X := by unfold k0_pay5 gemm; dsimp only; rw [shapeCast_shapeCast]
theorem pay6_eq : k0_pay6 w (asP X) = gemm w X := by unfold k0_pay6 gemm; dsimp only; rw [shapeCast_shapeCast]
theorem pay7_eq : k0_pay7 w (asZ X) = gemm w X := by unfold k0_pay7 gemm; dsimp only; rw [shapeCast_shapeCast]
theorem pay8_eq : k0_pay8 w (asZ X) = gemm w X := by unfold k0_pay8 gemm; dsimp only; rw [shapeCast_shapeCast]
theorem pay9_eq : k0_pay9 w (asZ X) = gemm w X := by unfold k0_pay9 gemm; dsimp only; rw [shapeCast_shapeCast]
theorem pay10_eq : k0_pay10 w (asZ X) = gemm w X := by unfold k0_pay10 gemm; dsimp only; rw [shapeCast_shapeCast]
theorem pay12_eq : k0_pay12 w (k0_pay11 (asZ X)) = gemm w X := by unfold k0_pay12 k0_pay11 gemm; dsimp only; rw [shapeCast_shapeCast]
theorem pay13_eq : k0_pay13 w (asZ X) = gemm w X := by unfold k0_pay13 gemm; dsimp only; rw [shapeCast_shapeCast]
theorem pay14_eq : k0_pay14 w (asZ X) = gemm w X := by unfold k0_pay14 gemm; dsimp only; rw [shapeCast_shapeCast]
theorem pay15_eq : k0_pay15 w (asZ X) = gemm w X := by unfold k0_pay15 gemm; dsimp only; rw [shapeCast_shapeCast]
theorem pay16_eq : k0_pay16 w (asZ X) = gemm w X := by unfold k0_pay16 gemm; dsimp only; rw [shapeCast_shapeCast]
theorem pay17_eq : k0_pay17 w (asZ X) = gemm w X := by unfold k0_pay17 gemm; dsimp only; rw [shapeCast_shapeCast]
theorem pay18_eq : k0_pay18 w (asZ X) = gemm w X := by unfold k0_pay18 gemm; dsimp only; rw [shapeCast_shapeCast]
theorem pay19_eq : k0_pay19 w (asZ X) = gemm w X := by unfold k0_pay19 gemm; dsimp only; rw [shapeCast_shapeCast]

end Pays

/-- The result's staging buffer. -/
abbrev oB : Memref sig .tc .vmem S1024x64 .f32 := Memref.whole cc0_stg2_0

theorem inbO (o : Dev nD) : ∀ a, (![64 * o.val, 0] : Fin 2 → Nat) a + S64x64.size a ≤ S1024x64.size a := by revert o; decide
/-- The rows of the result for device `o`'s block. -/
abbrev oR (o : Dev nD) : Rect S1024x64 := Rect.unit (s := S1024x64) ![64 * o.val, 0] S64x64.size (inbO o)
/-- What the result's buffer holds in them. -/
def rows (o : Dev nD) (f : Buf (Elt F) ((c : Thread nD τ).loc cc0_stg2_0)) : Vec F S64x64 .f32 := (oB.access (oR o)).read (Elt F) f

/-- The rows of two devices are disjoint. -/
theorem O_disjoint (o o' : Dev nD) (h : o ≠ o') : Disjoint (oR o).set (oR o').set :=
  Ring.lead_disjoint (s := S1024x64) 0 64 (fun o : Fin 16 => ![64 * o.val, 0]) S64x64.size inbO (fun b => rfl) rfl o o' h

/-- The result's buffer, the rows for the blocks in the slots `l` filled in. -/
def outP (l : List Slot) : sProp 𝕄 :=
  iprop(∃ f : Buf (Elt F) ((c : Thread nD τ).loc cc0_stg2_0), ⌜∀ s ∈ l, rows c (org s c) f = gemm (wv m ρ c) (xv m ρ (org s c))⌝ ∗ (((c : Thread nD τ).loc cc0_stg2_0) ↦{fullShare} f))

section OutOps
variable {α : Type}

/-- Loading rows of the result, at whatever they hold. -/
theorem wp_out_load (l : List Slot) {r : LoadRect S1024x64} {hl : oB.view.LoadsAt r}
    {k : (r.shape.Idx → Elt F .f32) → Prog (TpuEff nD τ sig (Elt F) Λ₀ .tc) α} {Q : α → sProp 𝕄} :
    (outP m ρ c l : sProp 𝕄) ⊢ iprop((∀ v, outP m ρ c l -∗ WP c (k v) Q) -∗ WP c (.op (.load oB r hl) k) Q) := by
  unfold outP
  iintro ⟨%f, %hf, H⟩ Hk
  have h := wp_load (defs := defs₀ (F := F)) (Γ := []) (Q := Q) 𝒱₀ (c : Thread nD τ) none Set.univ (m := oB) (r := r) (hl := hl) (k := k) (S := Finset.univ) (q := fullShare)
    (f := f) (Finset.subset_univ _)
  iapply h $$ [H]
  · iexact H
  iintro H
  iapply Hk
  iexists f
  isplitr; · ipureintro; exact hf
  iexact H

/-- Storing the rows for the block in slot `s`. -/
theorem wp_out_store (s : Slot) (l : List Slot) {off : Fin 2 → Nat} {inb} (hoff : off = ![64 * (org s c).val, 0])
    {w : Vec F S64x64 .f32} (hw : w = gemm (wv m ρ c) (xv m ρ (org s c)))
    {hx : (oB.access (Rect.unit (s := S1024x64) off S64x64.size inb)).Stores Finset.univ}
    {hm : (Finset.univ : Finset (Rect.unit (s := S1024x64) off S64x64.size inb).shape.Idx) = Finset.univ ∨ ∀ a, (Rect.unit (s := S1024x64) off S64x64.size inb).stride a = 1}
    {k : PUnit → Prog (TpuEff nD τ sig (Elt F) Λ₀ .tc) α} {Q : α → sProp 𝕄} :
    (outP m ρ c l : sProp 𝕄)
      ⊢ iprop((outP m ρ c (s :: l) -∗ WP c (k ⟨⟩) Q)
        -∗ WP c (.op (.store oB (Rect.unit (s := S1024x64) off S64x64.size inb) w Finset.univ hx hm) k) Q) := by
  subst hoff
  unfold outP
  iintro ⟨%f, %hf, H⟩ Hk
  have h := wp_store (defs := defs₀ (F := F)) (Γ := []) (Q := Q) 𝒱₀ (c : Thread nD τ) none Set.univ (m := oB) (r := oR (org s c)) (w := w) (Mk := Finset.univ) (hx := hx) (hm := hm) (k := k)
    (S := Finset.univ) (f := f) (Finset.subset_univ _)
  iapply h $$ [H]
  · iexact H
  iintro H
  iapply Hk
  iexists _
  isplitr
  swap
  · iexact H
  ipureintro
  have hself : rows c (org s c) ((oB.access (oR (org s c))).write (Elt F) f w Finset.univ) = gemm (wv m ρ c) (xv m ρ (org s c)) :=
    (View.read_write_univ (v := oB.access (oR (org s c))) f w).trans hw
  intro s' hs'
  by_cases e : org s' c = org s c
  · rw [e]; exact hself
  rcases List.mem_cons.mp hs' with rfl | hs'
  · exact absurd rfl e
  rw [← hf s' hs']
  refine View.read_congr fun i hi => ?_
  refine View.write_of_not_mem (v := oB.access (oR (org s c))) f w Finset.univ fun hi' => ?_
  rw [View.setOn_univ] at hi'
  exact Finset.disjoint_left.mp (O_disjoint _ _ e) ((View.set_slice_whole cc0_stg2_0 (oR (org s' c))) ▸ hi) ((View.set_slice_whole cc0_stg2_0 (oR (org s c))) ▸ hi')

end OutOps

/-- Which device's block a row of the result is for. -/
def rowDev (i : S1024x64.Idx) : Dev nD := ⟨(i 0).val / 64, (Nat.div_lt_iff_lt_mul (by decide)).mpr (i 0).isLt⟩
theorem rowIdx_lt (i : S1024x64.Idx) : ∀ a, (![(i 0).val % 64, (i 1).val] : Fin 2 → ℕ) a < S64x64.size a := by
  intro a
  fin_cases a
  · exact Nat.mod_lt _ (by decide)
  · exact (i 1).isLt
/-- Where in that block. -/
def rowIdx (i : S1024x64.Idx) : S64x64.Idx := fun a => ⟨(![(i 0).val % 64, (i 1).val] : Fin 2 → ℕ) a, rowIdx_lt i a⟩

/-- The result of device `c`: the blocks' products with its weights, one below the other. -/
def resv : Vec F S1024x64 .f32 := fun i => gemm (wv m ρ c) (xv m ρ (rowDev i)) (rowIdx i)

theorem rows_all (f : Buf (Elt F) ((c : Thread nD τ).loc cc0_stg2_0)) (h : ∀ o, rows c o f = gemm (wv m ρ c) (xv m ρ o)) : f = resv m ρ c := by
  funext i
  unfold resv
  rw [← h (rowDev i)]
  refine congrArg f (funext fun a => Fin.ext ?_)
  fin_cases a
  · show (i 0).val = 64 * ((i 0).val / 64) + 1 * ((i 0).val % 64)
    omega
  · show (i 1).val = 0 + 1 * (i 1).val
    omega

/-- Once every device's block is among the stored ones, the buffer holds the result. -/
theorem out_done (l : List Slot) (hl : ∀ o, ∃ s ∈ l, org s c = o) :
    (outP m ρ c l : sProp 𝕄) ⊢ (((c : Thread nD τ).loc cc0_stg2_0) ↦{fullShare} (resv m ρ c : Buf (Elt F) ((c : Thread nD τ).loc cc0_stg2_0))) := by
  unfold outP
  iintro ⟨%f, %hf, H⟩
  have e : f = resv m ρ c := rows_all m ρ c f fun o => by
    obtain ⟨s, hs, rfl⟩ := hl o
    exact hf s hs
  subst e
  iexact H

/-- Before any store the buffer holds anything. -/
theorem out_start (f : Buf (Elt F) ((c : Thread nD τ).loc cc0_stg2_0)) : (((c : Thread nD τ).loc cc0_stg2_0) ↦{fullShare} f : sProp 𝕄) ⊢ outP m ρ c [] := by
  unfold outP
  iintro H
  iexists f
  isplitr; · ipureintro; exact fun s hs => absurd hs List.not_mem_nil
  iexact H

end Cert.Gather

end
-- ==== Proof.Body.lean ====
/-
# 01_k — the kernel's body

The body printed in twenty-four windows: one theorem a window, each saying which slots, semaphores and blocks of the result it
takes and which it leaves, and from them the run of the whole body.
-/
module

public import proofs.«01_k».proof.Proof.Blocks

@[expose] public section

set_option maxRecDepth 16384

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Cid → ℕ) (c : Dev nD)

/-! ## The devices addressed and the rows written -/

theorem dev1_eq : (⟨k0_dev1 c, k0_dev1_lt c⟩ : Dev nD) = nbE 0 c := by revert c; decide +kernel
theorem dev2_eq : (⟨k0_dev2 c, k0_dev2_lt c⟩ : Dev nD) = nbE 1 c := by revert c; decide +kernel
theorem dev3_eq : (⟨k0_dev3 c, k0_dev3_lt c⟩ : Dev nD) = nbE 2 c := by revert c; decide +kernel
theorem dev4_eq : (⟨k0_dev4 c, k0_dev4_lt c⟩ : Dev nD) = nbE 3 c := by revert c; decide +kernel
theorem dev5_eq : (⟨k0_dev5 c, k0_dev5_lt c⟩ : Dev nD) = nbE (tnb 0) c := by revert c; decide +kernel
theorem dev6_eq : (⟨k0_dev6 c, k0_dev6_lt c⟩ : Dev nD) = nbE (tnb 1) c := by revert c; decide +kernel
theorem dev7_eq : (⟨k0_dev7 c, k0_dev7_lt c⟩ : Dev nD) = nbE (tnb 3) c := by revert c; decide +kernel
theorem dev8_eq : (⟨k0_dev8 c, k0_dev8_lt c⟩ : Dev nD) = nbE (tnb 7) c := by revert c; decide +kernel
theorem dev9_eq : (⟨k0_dev9 c, k0_dev9_lt c⟩ : Dev nD) = nbE (tnb 2) c := by revert c; decide +kernel
theorem dev10_eq : (⟨k0_dev10 c, k0_dev10_lt c⟩ : Dev nD) = nbE (tnb 4) c := by revert c; decide +kernel
theorem dev11_eq : (⟨k0_dev11 c, k0_dev11_lt c⟩ : Dev nD) = nbE (tnb 8) c := by revert c; decide +kernel
theorem dev12_eq : (⟨k0_dev12 c, k0_dev12_lt c⟩ : Dev nD) = nbE (tnb 5) c := by revert c; decide +kernel
theorem dev13_eq : (⟨k0_dev13 c, k0_dev13_lt c⟩ : Dev nD) = nbE (tnb 9) c := by revert c; decide +kernel
theorem dev14_eq : (⟨k0_dev14 c, k0_dev14_lt c⟩ : Dev nD) = nbE (tnb 6) c := by revert c; decide +kernel
theorem dev15_eq : (⟨k0_dev15 c, k0_dev15_lt c⟩ : Dev nD) = nbE (tnb 10) c := by revert c; decide +kernel
theorem dev16_eq : (⟨k0_dev16 c, k0_dev16_lt c⟩ : Dev nD) = nbE (tnb 11) c := by revert c; decide +kernel
theorem dev17_eq : (⟨k0_dev17 c, k0_dev17_lt c⟩ : Dev nD) = nbE (tnb 12) c := by revert c; decide +kernel
theorem dev18_eq : (⟨k0_dev18 c, k0_dev18_lt c⟩ : Dev nD) = nbE (tnb 13) c := by revert c; decide +kernel
theorem dev19_eq : (⟨k0_dev19 c, k0_dev19_lt c⟩ : Dev nD) = nbE (tnb 14) c := by revert c; decide +kernel
theorem k0_off1_eq' : k0_off1 c = ![64 * (org (.P 0) c).val, 0] := by revert c; decide +kernel
theorem off0_eq : k0_off2 c 0#32 3#32 = ![64 * (org (.P 1) c).val, 0] := by revert c; decide +kernel
theorem off1_eq : k0_off2 c 0#32 1#32 = ![64 * (org (.P 2) c).val, 0] := by revert c; decide +kernel
theorem off2_eq : k0_off2 c 0#32 2#32 = ![64 * (org (.P 3) c).val, 0] := by revert c; decide +kernel
theorem off3_eq : k0_off2 c 3#32 0#32 = ![64 * (org (.Z 0 0) c).val, 0] := by revert c; decide +kernel
theorem off4_eq : k0_off2 c 1#32 0#32 = ![64 * (org (.Z 0 1) c).val, 0] := by revert c; decide +kernel
theorem off5_eq : k0_off2 c 3#32 3#32 = ![64 * (org (.Z 1 0) c).val, 0] := by revert c; decide +kernel
theorem off6_eq : k0_off2 c 1#32 3#32 = ![64 * (org (.Z 1 1) c).val, 0] := by revert c; decide +kernel
theorem off7_eq : k0_off2 c 3#32 1#32 = ![64 * (org (.Z 2 0) c).val, 0] := by revert c; decide +kernel
theorem off8_eq : k0_off2 c 1#32 1#32 = ![64 * (org (.Z 2 1) c).val, 0] := by revert c; decide +kernel
theorem off9_eq : k0_off2 c 3#32 2#32 = ![64 * (org (.Z 3 0) c).val, 0] := by revert c; decide +kernel
theorem off10_eq : k0_off2 c 1#32 2#32 = ![64 * (org (.Z 3 1) c).val, 0] := by revert c; decide +kernel
theorem off11_eq : k0_off2 c 2#32 0#32 = ![64 * (org (.Z 0 2) c).val, 0] := by revert c; decide +kernel
theorem off12_eq : k0_off2 c 2#32 3#32 = ![64 * (org (.Z 1 2) c).val, 0] := by revert c; decide +kernel
theorem off13_eq : k0_off2 c 2#32 1#32 = ![64 * (org (.Z 2 2) c).val, 0] := by revert c; decide +kernel
theorem off14_eq : k0_off2 c 2#32 2#32 = ![64 * (org (.Z 3 2) c).val, 0] := by revert c; decide +kernel

/-! ## The staging buffers of the operands -/

/-- The staging buffers of the two operands. -/
abbrev xB : Memref sig .tc .vmem S64x1024 .bf16 := Memref.whole cc0_stg0_0
@[inherit_doc xB] abbrev wB : Memref sig .tc .vmem S1024x64 .bf16 := Memref.whole cc0_stg1_0

theorem off_zero : (![0, 0] : Fin 2 → Nat) = fun _ => 0 := by funext a; fin_cases a <;> rfl

/-- A program that has ended has shown what is true of its result. -/
theorem wp_done {c : Dev nD} {α : Type} {a : α} {Q : α → sProp 𝕄} : (Q a : sProp 𝕄) ⊢ WP c (.ret a) Q := by
  unfold WP; rw [wp_ret]; iintro H; imodintro; iexact H

section Look
variable {α : Type}

/-- Loading a slot that holds its block, at any share. -/
theorem wp_look_P (i : Fin 4) (q : PosShare TreeShare) {off : Fin 3 → Nat} {inb} (hoff : off = ![i.val, 0, 0])
    {hl : pB.view.LoadsAt (Rect.unit (s := S4x64x1024) off S1x64x1024.size inb).toLoadRect}
    {k : Vec F S1x64x1024 .bf16 → Prog (TpuEff nD τ sig (Elt F) Λ₀ .tc) α} {Q : α → sProp 𝕄} :
    (arr m ρ c (.P i) q : sProp 𝕄)
      ⊢ iprop((arr m ρ c (.P i) q -∗ WP c (k (asP (xv m ρ (org (.P i) c)))) Q)
        -∗ WP c (.op (.load pB (Rect.unit (s := S4x64x1024) off S1x64x1024.size inb).toLoadRect hl) k) Q) :=
  wp_load_P c i q (xv m ρ (org (.P i) c)) hoff
@[inherit_doc wp_look_P] theorem wp_look_Z (j : Fin 4) (i : Fin 3) (q : PosShare TreeShare) {off : Fin 4 → Nat} {inb} (hoff : off = ![j.val, i.val, 0, 0])
    {hl : zB.view.LoadsAt (Rect.unit (s := S4x3x64x1024) off S1x1x64x1024.size inb).toLoadRect}
    {k : Vec F S1x1x64x1024 .bf16 → Prog (TpuEff nD τ sig (Elt F) Λ₀ .tc) α} {Q : α → sProp 𝕄} :
    (arr m ρ c (.Z j i) q : sProp 𝕄)
      ⊢ iprop((arr m ρ c (.Z j i) q -∗ WP c (k (asZ (xv m ρ (org (.Z j i) c)))) Q)
        -∗ WP c (.op (.load zB (Rect.unit (s := S4x3x64x1024) off S1x1x64x1024.size inb).toLoadRect hl) k) Q) :=
  wp_load_Z c j i q (xv m ρ (org (.Z j i) c)) hoff

/-- Loading a whole operand. -/
theorem wp_look_w {inb} {hl : wB.view.LoadsAt (Rect.unit (s := S1024x64) ![0, 0] S1024x64.size inb).toLoadRect}
    {k : Vec F S1024x64 .bf16 → Prog (TpuEff nD τ sig (Elt F) Λ₀ .tc) α} {Q : α → sProp 𝕄} :
    ((((c : Thread nD τ).loc cc0_stg1_0) ↦{fullShare} (wv m ρ c)) : sProp 𝕄)
      ⊢ iprop(((((c : Thread nD τ).loc cc0_stg1_0) ↦{fullShare} (wv m ρ c)) -∗ WP c (k (wv m ρ c)) Q)
        -∗ WP c (.op (.load wB (Rect.unit (s := S1024x64) ![0, 0] S1024x64.size inb).toLoadRect hl) k) Q) := by
  have h := wp_load (defs := defs₀ (F := F)) (Γ := []) (Q := Q) 𝒱₀ (c : Thread nD τ) none Set.univ (m := wB) (r := (Rect.unit (s := S1024x64) ![0, 0] S1024x64.size inb).toLoadRect) (hl := hl) (k := k)
    (S := Finset.univ) (q := fullShare) (f := wv m ρ c) (Finset.subset_univ _)
  have hv : View.readAt (Elt F) wB.view (Rect.unit (s := S1024x64) ![0, 0] S1024x64.size inb).toLoadRect (wv m ρ c) = wv m ρ c := Memref.readAt_unit_zero (Elt F) cc0_stg1_0 off_zero inb _
  rw [hv] at h
  exact h
@[inherit_doc wp_look_w] theorem wp_look_x {inb} {hl : xB.view.LoadsAt (Rect.unit (s := S64x1024) ![0, 0] S64x1024.size inb).toLoadRect}
    {k : Vec F S64x1024 .bf16 → Prog (TpuEff nD τ sig (Elt F) Λ₀ .tc) α} {Q : α → sProp 𝕄} :
    ((((c : Thread nD τ).loc cc0_stg0_0) ↦{fullShare} (xv m ρ c)) : sProp 𝕄)
      ⊢ iprop(((((c : Thread nD τ).loc cc0_stg0_0) ↦{fullShare} (xv m ρ c)) -∗ WP c (k (xv m ρ c)) Q)
        -∗ WP c (.op (.load xB (Rect.unit (s := S64x1024) ![0, 0] S64x1024.size inb).toLoadRect hl) k) Q) := by
  have h := wp_load (defs := defs₀ (F := F)) (Γ := []) (Q := Q) 𝒱₀ (c : Thread nD τ) none Set.univ (m := xB) (r := (Rect.unit (s := S64x1024) ![0, 0] S64x1024.size inb).toLoadRect) (hl := hl) (k := k)
    (S := Finset.univ) (q := fullShare) (f := xv m ρ c) (Finset.subset_univ _)
  have hv : View.readAt (Elt F) xB.view (Rect.unit (s := S64x1024) ![0, 0] S64x1024.size inb).toLoadRect (xv m ρ c) = xv m ρ c := Memref.readAt_unit_zero (Elt F) cc0_stg0_0 off_zero inb _
  rw [hv] at h
  exact h

end Look

/-- Window 1 reads the device's number, and computes words. -/
theorem part1 {Q : (Σ' (d0 : Dev nD) (v2 : BitVec 32) (v3 : BitVec 32) (v20 : BitVec 32) (v24 : BitVec 32) (v28 : BitVec 32) (v30 : BitVec 32) (v32 : BitVec 32), Sems sig S_) → sProp 𝕄} :
    (iprop(∀ v2 v3 v20 v24 v28 v30 v32, Q ⟨c, v2, v3, v20, v24, v28, v30, v32, SemArray.scalar (sig.barrier 0 rfl)⟩) : sProp 𝕄)
      ⊢ WP c (k0_part1 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7) Q := by
  rw [k0_part1_eq_skeleton]; unfold k0_part1_skel
  simp only [Prog.lift, Prog.bind_op, Prog.bind_ret, Prog.pure_eq_ret, wp_deviceId]
  iintro HQ
  iapply wp_done
  iapply HQ

theorem org_P0 : org (.P 0) c = c := by revert c; decide

theorem amount_one : (1#32 : BitVec 32).toInt = 1 := by decide
theorem amount_four : (4#32 : BitVec 32).toInt = 4 := by decide

/-- A slot of this device, as its neighbour on the other side is to write it. -/
theorem room_of (t : Fin 15) (j : Fin 4) (h : nbE (tnb t) (nbE j c) = c) : room (F := F) (nbE j c) t = free c (tdst t) := by
  unfold room; rw [h]

/-- What the four signals of this device hand its neighbours: its own slots. -/
theorem pay_q_up : (free c (.P 2) : sProp 𝕄) ⊢ barPay (nbE 0 c) 0 := by
  unfold barPay; rw [room_of c 1 0 (qDn_qUp c)]; exact Entails.of_eq rfl
@[inherit_doc pay_q_up] theorem pay_q_dn : (iprop(free c (.P 1) ∗ free c (.P 3)) : sProp 𝕄) ⊢ barPay (nbE 1 c) 1 := by
  unfold barPay; rw [room_of c 0 1 (qUp_qDn c), room_of c 2 1 (qUp_qDn c)]; exact Entails.of_eq rfl
@[inherit_doc pay_q_up] theorem pay_z_up : (iprop(free c (.Z 0 1) ∗ free c (.Z 1 1) ∗ free c (.Z 2 1) ∗ free c (.Z 3 1) ∗ free c (.Z 2 2) ∗ free c (.Z 3 2)) : sProp 𝕄) ⊢ barPay (nbE 2 c) 2 := by
  unfold barPay
  rw [room_of c 7 2 (zDn_zUp c), room_of c 8 2 (zDn_zUp c), room_of c 9 2 (zDn_zUp c), room_of c 10 2 (zDn_zUp c), room_of c 13 2 (zDn_zUp c), room_of c 14 2 (zDn_zUp c)]; exact Entails.of_eq rfl
@[inherit_doc pay_q_up] theorem pay_z_dn : (iprop(free c (.Z 0 0) ∗ free c (.Z 1 0) ∗ free c (.Z 2 0) ∗ free c (.Z 3 0) ∗ free c (.Z 0 2) ∗ free c (.Z 1 2)) : sProp 𝕄) ⊢ barPay (nbE 3 c) 3 := by
  unfold barPay
  rw [room_of c 3 3 (zUp_zDn c), room_of c 4 3 (zUp_zDn c), room_of c 5 3 (zUp_zDn c), room_of c 6 3 (zUp_zDn c), room_of c 11 3 (zUp_zDn c), room_of c 12 3 (zUp_zDn c)]; exact Entails.of_eq rfl

/-- All the slots that are not the device's own block, and its own. -/
def slotsFree : sProp 𝕄 :=
  iprop((free c (.P 0) ∗ free c (.P 1) ∗ free c (.P 2) ∗ free c (.P 3))
    ∗ (free c (.Z 0 0) ∗ free c (.Z 0 1) ∗ free c (.Z 0 2)) ∗ (free c (.Z 1 0) ∗ free c (.Z 1 1) ∗ free c (.Z 1 2))
    ∗ (free c (.Z 2 0) ∗ free c (.Z 2 1) ∗ free c (.Z 2 2)) ∗ (free c (.Z 3 0) ∗ free c (.Z 3 1) ∗ free c (.Z 3 2)))

/-- The tokens the four signals pay with, and what the wait on the barrier takes. -/
def meeting : sProp 𝕄 :=
  iprop((dutyTok ER (barC (nbE 0 c)) 0 0 ∗ dutyTok ER (barC (nbE 1 c)) 0 1 ∗ dutyTok ER (barC (nbE 2 c)) 0 2 ∗ dutyTok ER (barC (nbE 3 c)) 0 3)
    ∗ cred (tallyAt (barC c) () 4) ∗ atPos ER (barC c) 0 ∅ 0)

/-- The rooms of all fifteen transfers: what the four payments of the barrier hand over. -/
def rooms : sProp 𝕄 := iprop(barPay c 0 ∗ barPay c 1 ∗ barPay c 2 ∗ barPay c 3)

/-- The operands in their staging buffers. -/
def operands : sProp 𝕄 :=
  iprop((((c : Thread nD τ).loc cc0_stg0_0) ↦{fullShare} (xv m ρ c)) ∗ (((c : Thread nD τ).loc cc0_stg1_0) ↦{fullShare} (wv m ρ c)))

/-- Window 2: the four signals and the wait on the barrier, the operands' loads, the own block's store, the first transfer. -/
theorem part2 (v24 v28 v30 v32 : BitVec 32) {Q : FVec F S1024x64 .bf16 → sProp 𝕄} :
    iprop(know m ρ K ∗ dues c allPays ∗ meeting c ∗ slotsFree c ∗ operands m ρ c ∗ ready c 0)
      ⊢ iprop(((dues c [.inr 1, .inr 3, .inr 7, .inr 2, .inr 4, .inr 8, .inr 5, .inr 9, .inr 6, .inr 10, .inr 11, .inr 12, .inr 13, .inr 14] ∗ semVal (barC c) 0 ∗ operands m ρ c
            ∗ barPay c 0 ∗ room c 2 ∗ barPay c 2 ∗ barPay c 3
            ∗ kept m ρ c (.P 0) ∗ lent m ρ c 1 ∗ lent m ρ c 3 ∗ lent m ρ c 7 ∗ flying c 0) -∗ Q (wv m ρ c))
        -∗ WP c (k0_part2 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7
            c v24 v28 v30 v32 (SemArray.scalar (sig.barrier 0 rfl))) Q) := by
  rw [k0_part2_eq_skeleton]; unfold k0_part2_skel
  simp only [semSignalWord, semWaitWord, amount_one, amount_four, Prog.lift, Prog.bind_op, Prog.bind_ret, Prog.pure_eq_ret]
  unfold meeting slotsFree operands
  iintro ⟨#Hk, D, ⟨⟨T0, T1, T2, T3⟩, HC, HA⟩, ⟨⟨P0, P1, P2, P3⟩, ⟨Z00, Z01, Z02⟩, ⟨Z10, Z11, Z12⟩, ⟨Z20, Z21, Z22⟩, Z30, Z31, Z32⟩, ⟨HX, HW⟩, R0⟩ HQ
  iapply (wp_sig m ρ K c 0 (.inl 1 :: .inl 2 :: .inl 3 :: order) (dev1_eq c) rfl) $$ [D T0 P2]
  · isplitr; · iexact Hk
    isplitl [D]; · iexact D
    isplitl [T0]; · iexact T0
    iapply (pay_q_up c); iexact P2
  iintro D
  iapply (wp_sig m ρ K c 1 (.inl 2 :: .inl 3 :: order) (dev2_eq c) rfl) $$ [D T1 P1 P3]
  · isplitr; · iexact Hk
    isplitl [D]; · iexact D
    isplitl [T1]; · iexact T1
    iapply (pay_q_dn c)
    isplitl [P1]; · iexact P1
    iexact P3
  iintro D
  iapply (wp_sig m ρ K c 2 (.inl 3 :: order) (dev3_eq c) rfl) $$ [D T2 Z01 Z11 Z21 Z31 Z22 Z32]
  · isplitr; · iexact Hk
    isplitl [D]; · iexact D
    isplitl [T2]; · iexact T2
    iapply (pay_z_up c)
    isplitl [Z01]; · iexact Z01
    isplitl [Z11]; · iexact Z11
    isplitl [Z21]; · iexact Z21
    isplitl [Z31]; · iexact Z31
    isplitl [Z22]; · iexact Z22
    iexact Z32
  iintro D
  iapply (wp_sig m ρ K c 3 order (dev4_eq c) rfl) $$ [D T3 Z00 Z10 Z20 Z30 Z02 Z12]
  · isplitr; · iexact Hk
    isplitl [D]; · iexact D
    isplitl [T3]; · iexact T3
    iapply (pay_z_dn c)
    isplitl [Z00]; · iexact Z00
    isplitl [Z10]; · iexact Z10
    isplitl [Z20]; · iexact Z20
    isplitl [Z30]; · iexact Z30
    isplitl [Z02]; · iexact Z02
    iexact Z12
  iintro D
  iapply (wp_bar m ρ K c order (by decide) rfl) $$ [D HC HA]
  · isplitr; · iexact Hk
    isplitl [D]; · iexact D
    isplitl [HC]; · iexact HC
    iexact HA
  iintro ⟨D, HS, B0, B1, B2, B3⟩
  iapply (wp_look_w m ρ c) $$ [HW]
  · iexact HW
  iintro HW
  iapply (wp_look_x m ρ c) $$ [HX]
  · iexact HX
  iintro HX
  iapply (wp_peek_P c 0 rfl) $$ [P0]
  · iexact P0
  iintro %v P0
  iapply (wp_fill_P c 0 (xv m ρ c) rfl (pay2_eq _)) $$ [P0]
  · iexact P0
  iintro P0
  have e0 : (holds c (.P 0) fullShare (xv m ρ c) : sProp 𝕄) ⊢ arr m ρ c (.P 0) fullShare := by
    unfold arr; rw [org_P0]
  ihave P0 := e0 $$ P0
  ihave P0 := (lend_P0 m ρ c) $$ P0
  icases P0 with ⟨KP0, L0, L1, L3, L7⟩
  have e1 : (barPay c 1 : sProp 𝕄) ⊢ iprop(room c 0 ∗ room c 2) := by unfold barPay; exact Entails.of_eq rfl
  ihave B1 := e1 $$ B1
  icases B1 with ⟨M0, M2⟩
  iapply (wp_go m ρ K c 0 [.inr 1, .inr 3, .inr 7, .inr 2, .inr 4, .inr 8, .inr 5, .inr 9, .inr 6, .inr 10, .inr 11, .inr 12, .inr 13, .inr 14] (dev5_eq c) rfl rfl rfl rfl) $$ [D R0 L0 M0]
  · isplitr; · iexact Hk
    isplitl [D]; · iexact D
    isplitl [R0]; · iexact R0
    isplitl [L0]; · iexact L0
    iexact M0
  iintro ⟨D, F0⟩
  rw [pay1_eq]
  iapply wp_done
  iapply HQ
  isplitl [D]; · iexact D
  isplitl [HS]; · iexact HS
  isplitl [HX HW]
  · isplitl [HX]; · iexact HX
    iexact HW
  isplitl [B0]; · iexact B0
  isplitl [M2]; · iexact M2
  isplitl [B2]; · iexact B2
  isplitl [B3]; · iexact B3
  isplitl [KP0]; · iexact KP0
  isplitl [L1]; · iexact L1
  isplitl [L3]; · iexact L3
  isplitl [L7]; · iexact L7
  iexact F0

/-- Window 3 of the body. -/
theorem part3 (v28 v30 v32 : BitVec 32) {Q : (PUnit) → sProp 𝕄} :
    iprop(know m ρ K ∗ dues c [.inr 1, .inr 3, .inr 7, .inr 2, .inr 4, .inr 8, .inr 5, .inr 9, .inr 6, .inr 10, .inr 11, .inr 12, .inr 13, .inr 14] ∗ ready c 1 ∗ lent m ρ c 1 ∗ room c 1 ∗ ready c 3 ∗ lent m ρ c 3 ∗ room c 3)
      ⊢ iprop(((flying c 1 ∗ dues c [.inr 7, .inr 2, .inr 4, .inr 8, .inr 5, .inr 9, .inr 6, .inr 10, .inr 11, .inr 12, .inr 13, .inr 14] ∗ flying c 3) -∗ Q ⟨⟩)
        -∗ WP c (k0_part3 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v28 v30 v32) Q) := by
  rw [k0_part3_eq_skeleton]; unfold k0_part3_skel
  simp only [Prog.lift, Prog.bind_op, Prog.bind_ret, Prog.pure_eq_ret]
  iintro ⟨#Hk, D, R1, L1, M1, R3, L3, M3⟩ HQ
  iapply (wp_go m ρ K c 1 [.inr 3, .inr 7, .inr 2, .inr 4, .inr 8, .inr 5, .inr 9, .inr 6, .inr 10, .inr 11, .inr 12, .inr 13, .inr 14] (dev6_eq c) rfl rfl rfl rfl) $$ [D R1 L1 M1]
  · isplitr; · iexact Hk
    isplitl [D]; · iexact D
    isplitl [R1]; · iexact R1
    isplitl [L1]; · iexact L1
    iexact M1
  iintro ⟨D, F1⟩
  iapply (wp_go m ρ K c 3 [.inr 7, .inr 2, .inr 4, .inr 8, .inr 5, .inr 9, .inr 6, .inr 10, .inr 11, .inr 12, .inr 13, .inr 14] (dev7_eq c) rfl rfl rfl rfl) $$ [D R3 L3 M3]
  · isplitr; · iexact Hk
    isplitl [D]; · iexact D
    isplitl [R3]; · iexact R3
    isplitl [L3]; · iexact L3
    iexact M3
  iintro ⟨D, F3⟩
  iapply wp_done
  iapply HQ
  isplitl [F1]; · iexact F1
  isplitl [D]; · iexact D
  iexact F3

/-- Window 4 of the body. -/
theorem part4 (v2 v24 : BitVec 32) {Q : (PUnit) → sProp 𝕄} :
    iprop(know m ρ K ∗ dues c [.inr 7, .inr 2, .inr 4, .inr 8, .inr 5, .inr 9, .inr 6, .inr 10, .inr 11, .inr 12, .inr 13, .inr 14] ∗ ready c 7 ∗ lent m ρ c 7 ∗ room c 7 ∗ kept m ρ c (.P 0) ∗ outP m ρ c [] ∗ awaited c 0)
      ⊢ iprop(((flying c 7 ∗ kept m ρ c (.P 0) ∗ outP m ρ c [.P 0] ∗ dues c [.inr 2, .inr 4, .inr 8, .inr 5, .inr 9, .inr 6, .inr 10, .inr 11, .inr 12, .inr 13, .inr 14] ∗ semVal (rcvC c 0) 0 ∗ kept m ρ c (.P 1) ∗ lent m ρ c 2 ∗ lent m ρ c 4 ∗ lent m ρ c 8) -∗ Q ⟨⟩)
        -∗ WP c (k0_part4 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v2 v24 (wv m ρ c)) Q) := by
  rw [k0_part4_eq_skeleton]; unfold k0_part4_skel
  simp only [Prog.lift, Prog.bind_op, Prog.bind_ret, Prog.pure_eq_ret]
  iintro ⟨#Hk, D, R7, L7, M7, KP0, O, A0⟩ HQ
  iapply (wp_go m ρ K c 7 [.inr 2, .inr 4, .inr 8, .inr 5, .inr 9, .inr 6, .inr 10, .inr 11, .inr 12, .inr 13, .inr 14] (dev8_eq c) rfl rfl rfl rfl) $$ [D R7 L7 M7]
  · isplitr; · iexact Hk
    isplitl [D]; · iexact D
    isplitl [R7]; · iexact R7
    isplitl [L7]; · iexact L7
    iexact M7
  iintro ⟨D, F7⟩
  iapply (wp_look_P m ρ c 0 fullShare.left rfl) $$ [KP0]
  · iexact KP0
  iintro KP0
  iapply (wp_out_load m ρ c []) $$ [O]
  · iexact O
  iintro %v O
  iapply (wp_out_store m ρ c (.P 0) [] (k0_off1_eq' c) (pay3_eq _ _)) $$ [O]
  · iexact O
  iintro O
  iapply (wp_recv m ρ K c 0 [.inr 2, .inr 4, .inr 8, .inr 5, .inr 9, .inr 6, .inr 10, .inr 11, .inr 12, .inr 13, .inr 14] (by decide) rfl rfl) $$ [D A0]
  · isplitr; · iexact Hk
    isplitl [D]; · iexact D
    iexact A0
  iintro ⟨D, Y0, V⟩
  have h0 : (arr m ρ c (tdst 0) fullShare : sProp 𝕄) ⊢ iprop(kept m ρ c (.P 1) ∗ lent m ρ c 2 ∗ lent m ρ c 4 ∗ lent m ρ c 8) := lend_P1 m ρ c
  ihave V := h0 $$ V
  icases V with ⟨KP1, L2, L4, L8⟩
  iapply wp_done
  iapply HQ
  isplitl [F7]; · iexact F7
  isplitl [KP0]; · iexact KP0
  isplitl [O]; · iexact O
  isplitl [D]; · iexact D
  isplitl [Y0]; · iexact Y0
  isplitl [KP1]; · iexact KP1
  isplitl [L2]; · iexact L2
  isplitl [L4]; · iexact L4
  iexact L8

/-- Window 5 of the body. -/
theorem part5 (v3 v20 v30 v32 : BitVec 32) {Q : (BitVec 32) → sProp 𝕄} :
    iprop(know m ρ K ∗ dues c [.inr 2, .inr 4, .inr 8, .inr 5, .inr 9, .inr 6, .inr 10, .inr 11, .inr 12, .inr 13, .inr 14] ∗ ready c 2 ∗ lent m ρ c 2 ∗ room c 2 ∗ ready c 4 ∗ lent m ρ c 4 ∗ room c 4 ∗ ready c 8 ∗ lent m ρ c 8 ∗ room c 8)
      ⊢ iprop((∀ v, (flying c 2 ∗ flying c 4 ∗ dues c [.inr 5, .inr 9, .inr 6, .inr 10, .inr 11, .inr 12, .inr 13, .inr 14] ∗ flying c 8) -∗ Q v)
        -∗ WP c (k0_part5 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v30 v32) Q) := by
  rw [k0_part5_eq_skeleton]; unfold k0_part5_skel
  simp only [Prog.lift, Prog.bind_op, Prog.bind_ret, Prog.pure_eq_ret]
  iintro ⟨#Hk, D, R2, L2, M2, R4, L4, M4, R8, L8, M8⟩ HQ
  iapply (wp_go m ρ K c 2 [.inr 4, .inr 8, .inr 5, .inr 9, .inr 6, .inr 10, .inr 11, .inr 12, .inr 13, .inr 14] (dev9_eq c) rfl rfl rfl rfl) $$ [D R2 L2 M2]
  · isplitr; · iexact Hk
    isplitl [D]; · iexact D
    isplitl [R2]; · iexact R2
    isplitl [L2]; · iexact L2
    iexact M2
  iintro ⟨D, F2⟩
  iapply (wp_go m ρ K c 4 [.inr 8, .inr 5, .inr 9, .inr 6, .inr 10, .inr 11, .inr 12, .inr 13, .inr 14] (dev10_eq c) rfl rfl rfl rfl) $$ [D R4 L4 M4]
  · isplitr; · iexact Hk
    isplitl [D]; · iexact D
    isplitl [R4]; · iexact R4
    isplitl [L4]; · iexact L4
    iexact M4
  iintro ⟨D, F4⟩
  iapply (wp_go m ρ K c 8 [.inr 5, .inr 9, .inr 6, .inr 10, .inr 11, .inr 12, .inr 13, .inr 14] (dev11_eq c) rfl rfl rfl rfl) $$ [D R8 L8 M8]
  · isplitr; · iexact Hk
    isplitl [D]; · iexact D
    isplitl [R8]; · iexact R8
    isplitl [L8]; · iexact L8
    iexact M8
  iintro ⟨D, F8⟩
  iapply wp_done
  iapply HQ
  isplitl [F2]; · iexact F2
  isplitl [F4]; · iexact F4
  isplitl [D]; · iexact D
  iexact F8

/-- Window 6 of the body. -/
theorem part6 (v28 v30 v140 : BitVec 32) {Q : (PUnit) → sProp 𝕄} :
    iprop(know m ρ K ∗ kept m ρ c (.P 1) ∗ outP m ρ c [.P 0] ∗ dues c [.inr 5, .inr 9, .inr 6, .inr 10, .inr 11, .inr 12, .inr 13, .inr 14] ∗ awaited c 1 ∗ ready c 5 ∗ room c 5)
      ⊢ iprop(((kept m ρ c (.P 1) ∗ outP m ρ c [.P 1, .P 0] ∗ semVal (rcvC c 1) 0 ∗ kept m ρ c (.P 2) ∗ lent m ρ c 9 ∗ dues c [.inr 9, .inr 6, .inr 10, .inr 11, .inr 12, .inr 13, .inr 14] ∗ flying c 5) -∗ Q ⟨⟩)
        -∗ WP c (k0_part6 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v28 v30 (wv m ρ c) v140) Q) := by
  rw [k0_part6_eq_skeleton]; unfold k0_part6_skel
  simp only [Prog.lift, Prog.bind_op, Prog.bind_ret, Prog.pure_eq_ret]
  iintro ⟨#Hk, KP1, O, D, A1, R5, M5⟩ HQ
  iapply (wp_look_P m ρ c 1 fullShare.left rfl) $$ [KP1]
  · iexact KP1
  iintro KP1
  iapply (wp_out_load m ρ c [.P 0]) $$ [O]
  · iexact O
  iintro %v O
  iapply (wp_out_store m ρ c (.P 1) [.P 0] (off0_eq c) (pay4_eq _ _)) $$ [O]
  · iexact O
  iintro O
  iapply (wp_recv m ρ K c 1 [.inr 5, .inr 9, .inr 6, .inr 10, .inr 11, .inr 12, .inr 13, .inr 14] (by decide) rfl rfl) $$ [D A1]
  · isplitr; · iexact Hk
    isplitl [D]; · iexact D
    iexact A1
  iintro ⟨D, Y1, V⟩
  have h1 : (arr m ρ c (tdst 1) fullShare : sProp 𝕄) ⊢ iprop(kept m ρ c (.P 2) ∗ lent m ρ c 5 ∗ lent m ρ c 9) := lend_P2 m ρ c
  ihave V := h1 $$ V
  icases V with ⟨KP2, L5, L9⟩
  iapply (wp_go m ρ K c 5 [.inr 9, .inr 6, .inr 10, .inr 11, .inr 12, .inr 13, .inr 14] (dev12_eq c) rfl rfl rfl rfl) $$ [D R5 L5 M5]
  · isplitr; · iexact Hk
    isplitl [D]; · iexact D
    isplitl [R5]; · iexact R5
    isplitl [L5]; · iexact L5
    iexact M5
  iintro ⟨D, F5⟩
  iapply wp_done
  iapply HQ
  isplitl [KP1]; · iexact KP1
  isplitl [O]; · iexact O
  isplitl [Y1]; · iexact Y1
  isplitl [KP2]; · iexact KP2
  isplitl [L9]; · iexact L9
  isplitl [D]; · iexact D
  iexact F5

/-- Window 7 of the body. -/
theorem part7 (v3 v20 v24 v32 : BitVec 32) {Q : (PUnit) → sProp 𝕄} :
    iprop(know m ρ K ∗ dues c [.inr 9, .inr 6, .inr 10, .inr 11, .inr 12, .inr 13, .inr 14] ∗ ready c 9 ∗ lent m ρ c 9 ∗ room c 9 ∗ kept m ρ c (.P 2) ∗ outP m ρ c [.P 1, .P 0])
      ⊢ iprop(((dues c [.inr 6, .inr 10, .inr 11, .inr 12, .inr 13, .inr 14] ∗ flying c 9 ∗ kept m ρ c (.P 2) ∗ outP m ρ c [.P 2, .P 1, .P 0]) -∗ Q ⟨⟩)
        -∗ WP c (k0_part7 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v24 v32 (wv m ρ c)) Q) := by
  rw [k0_part7_eq_skeleton]; unfold k0_part7_skel
  simp only [Prog.lift, Prog.bind_op, Prog.bind_ret, Prog.pure_eq_ret]
  iintro ⟨#Hk, D, R9, L9, M9, KP2, O⟩ HQ
  iapply (wp_go m ρ K c 9 [.inr 6, .inr 10, .inr 11, .inr 12, .inr 13, .inr 14] (dev13_eq c) rfl rfl rfl rfl) $$ [D R9 L9 M9]
  · isplitr; · iexact Hk
    isplitl [D]; · iexact D
    isplitl [R9]; · iexact R9
    isplitl [L9]; · iexact L9
    iexact M9
  iintro ⟨D, F9⟩
  iapply (wp_look_P m ρ c 2 fullShare.left rfl) $$ [KP2]
  · iexact KP2
  iintro KP2
  iapply (wp_out_load m ρ c [.P 1, .P 0]) $$ [O]
  · iexact O
  iintro %v O
  iapply (wp_out_store m ρ c (.P 2) [.P 1, .P 0] (off1_eq c) (pay5_eq _ _)) $$ [O]
  · iexact O
  iintro O
  iapply wp_done
  iapply HQ
  isplitl [D]; · iexact D
  isplitl [F9]; · iexact F9
  isplitl [KP2]; · iexact KP2
  iexact O

/-- Window 8 of the body. -/
theorem part8 (v3 v20 v30 v32 : BitVec 32) {Q : (Σ' (v221 : BitVec 32) (v222 : BitVec 32), BitVec 32) → sProp 𝕄} :
    iprop(know m ρ K ∗ dues c [.inr 6, .inr 10, .inr 11, .inr 12, .inr 13, .inr 14] ∗ awaited c 2 ∗ ready c 6 ∗ room c 6 ∗ ready c 10 ∗ room c 10)
      ⊢ iprop((∀ a b d, (semVal (rcvC c 2) 0 ∗ kept m ρ c (.P 3) ∗ flying c 6 ∗ dues c [.inr 11, .inr 12, .inr 13, .inr 14] ∗ flying c 10) -∗ Q ⟨a, b, d⟩)
        -∗ WP c (k0_part8 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v30 v32) Q) := by
  rw [k0_part8_eq_skeleton]; unfold k0_part8_skel
  simp only [Prog.lift, Prog.bind_op, Prog.bind_ret, Prog.pure_eq_ret]
  iintro ⟨#Hk, D, A2, R6, M6, R10, M10⟩ HQ
  iapply (wp_recv m ρ K c 2 [.inr 6, .inr 10, .inr 11, .inr 12, .inr 13, .inr 14] (by decide) rfl rfl) $$ [D A2]
  · isplitr; · iexact Hk
    isplitl [D]; · iexact D
    iexact A2
  iintro ⟨D, Y2, V⟩
  have h2 : (arr m ρ c (tdst 2) fullShare : sProp 𝕄) ⊢ iprop(kept m ρ c (.P 3) ∗ lent m ρ c 6 ∗ lent m ρ c 10) := lend_P3 m ρ c
  ihave V := h2 $$ V
  icases V with ⟨KP3, L6, L10⟩
  iapply (wp_go m ρ K c 6 [.inr 10, .inr 11, .inr 12, .inr 13, .inr 14] (dev14_eq c) rfl rfl rfl rfl) $$ [D R6 L6 M6]
  · isplitr; · iexact Hk
    isplitl [D]; · iexact D
    isplitl [R6]; · iexact R6
    isplitl [L6]; · iexact L6
    iexact M6
  iintro ⟨D, F6⟩
  iapply (wp_go m ρ K c 10 [.inr 11, .inr 12, .inr 13, .inr 14] (dev15_eq c) rfl rfl rfl rfl) $$ [D R10 L10 M10]
  · isplitr; · iexact Hk
    isplitl [D]; · iexact D
    isplitl [R10]; · iexact R10
    isplitl [L10]; · iexact L10
    iexact M10
  iintro ⟨D, F10⟩
  iapply wp_done
  iapply HQ
  isplitl [Y2]; · iexact Y2
  isplitl [KP3]; · iexact KP3
  isplitl [F6]; · iexact F6
  isplitl [D]; · iexact D
  iexact F10

/-- Window 9 of the body. -/
theorem part9 (v30 v221 v222 c4_i32_219 : BitVec 32) {Q : (PUnit) → sProp 𝕄} :
    iprop(know m ρ K ∗ kept m ρ c (.P 3) ∗ outP m ρ c [.P 2, .P 1, .P 0] ∗ dues c [.inr 11, .inr 12, .inr 13, .inr 14] ∗ awaited c 3)
      ⊢ iprop(((kept m ρ c (.P 3) ∗ outP m ρ c [.P 3, .P 2, .P 1, .P 0] ∗ dues c [.inr 11, .inr 12, .inr 13, .inr 14] ∗ semVal (rcvC c 3) 0 ∗ kept m ρ c (.Z 0 0) ∗ lent m ρ c 11) -∗ Q ⟨⟩)
        -∗ WP c (k0_part9 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v30 (wv m ρ c) v221 v222 c4_i32_219) Q) := by
  rw [k0_part9_eq_skeleton]; unfold k0_part9_skel
  simp only [Prog.lift, Prog.bind_op, Prog.bind_ret, Prog.pure_eq_ret]
  iintro ⟨#Hk, KP3, O, D, A3⟩ HQ
  iapply (wp_look_P m ρ c 3 fullShare.left rfl) $$ [KP3]
  · iexact KP3
  iintro KP3
  iapply (wp_out_load m ρ c [.P 2, .P 1, .P 0]) $$ [O]
  · iexact O
  iintro %v O
  iapply (wp_out_store m ρ c (.P 3) [.P 2, .P 1, .P 0] (off2_eq c) (pay6_eq _ _)) $$ [O]
  · iexact O
  iintro O
  iapply (wp_recv m ρ K c 3 [.inr 11, .inr 12, .inr 13, .inr 14] (by decide) rfl rfl) $$ [D A3]
  · isplitr; · iexact Hk
    isplitl [D]; · iexact D
    iexact A3
  iintro ⟨D, Y3, V⟩
  have h3 : (arr m ρ c (tdst 3) fullShare : sProp 𝕄) ⊢ iprop(kept m ρ c (.Z 0 0) ∗ lent m ρ c 11) := lend_Z m ρ c 11 rfl
  ihave V := h3 $$ V
  icases V with ⟨KZ00, L11⟩
  iapply wp_done
  iapply HQ
  isplitl [KP3]; · iexact KP3
  isplitl [O]; · iexact O
  isplitl [D]; · iexact D
  isplitl [Y3]; · iexact Y3
  isplitl [KZ00]; · iexact KZ00
  iexact L11

/-- Window 10 of the body. -/
theorem part10 (v3 v20 v32 : BitVec 32) {Q : (Σ' (v275 : BitVec 32), BitVec 32) → sProp 𝕄} :
    iprop(know m ρ K ∗ dues c [.inr 11, .inr 12, .inr 13, .inr 14] ∗ ready c 11 ∗ lent m ρ c 11 ∗ room c 11 ∗ kept m ρ c (.Z 0 0) ∗ outP m ρ c [.P 3, .P 2, .P 1, .P 0] ∗ awaited c 7)
      ⊢ iprop((∀ a b, (flying c 11 ∗ kept m ρ c (.Z 0 0) ∗ outP m ρ c [.Z 0 0, .P 3, .P 2, .P 1, .P 0] ∗ dues c [.inr 12, .inr 13, .inr 14] ∗ semVal (rcvC c 7) 0 ∗ arr m ρ c (.Z 0 1) fullShare) -∗ Q ⟨a, b⟩)
        -∗ WP c (k0_part10 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v32 (wv m ρ c)) Q) := by
  rw [k0_part10_eq_skeleton]; unfold k0_part10_skel
  simp only [Prog.lift, Prog.bind_op, Prog.bind_ret, Prog.pure_eq_ret]
  iintro ⟨#Hk, D, R11, L11, M11, KZ00, O, A7⟩ HQ
  iapply (wp_go m ρ K c 11 [.inr 12, .inr 13, .inr 14] (dev16_eq c) rfl rfl rfl rfl) $$ [D R11 L11 M11]
  · isplitr; · iexact Hk
    isplitl [D]; · iexact D
    isplitl [R11]; · iexact R11
    isplitl [L11]; · iexact L11
    iexact M11
  iintro ⟨D, F11⟩
  iapply (wp_look_Z m ρ c 0 0 fullShare.left rfl) $$ [KZ00]
  · iexact KZ00
  iintro KZ00
  iapply (wp_out_load m ρ c [.P 3, .P 2, .P 1, .P 0]) $$ [O]
  · iexact O
  iintro %v O
  iapply (wp_out_store m ρ c (.Z 0 0) [.P 3, .P 2, .P 1, .P 0] (off3_eq c) (pay7_eq _ _)) $$ [O]
  · iexact O
  iintro O
  iapply (wp_recv m ρ K c 7 [.inr 12, .inr 13, .inr 14] (by decide) rfl rfl) $$ [D A7]
  · isplitr; · iexact Hk
    isplitl [D]; · iexact D
    iexact A7
  iintro ⟨D, Y7, V⟩
  have h7 : (arr m ρ c (tdst 7) fullShare : sProp 𝕄) ⊢ arr m ρ c (.Z 0 1) fullShare := Entails.of_eq rfl
  ihave VZ01 := h7 $$ V
  iapply wp_done
  iapply HQ
  isplitl [F11]; · iexact F11
  isplitl [KZ00]; · iexact KZ00
  isplitl [O]; · iexact O
  isplitl [D]; · iexact D
  isplitl [Y7]; · iexact Y7
  iexact VZ01

/-- Window 11 of the body. -/
theorem part11 (v30 v275 v276 : BitVec 32) {Q : (PUnit) → sProp 𝕄} :
    iprop(know m ρ K ∗ arr m ρ c (.Z 0 1) fullShare ∗ outP m ρ c [.Z 0 0, .P 3, .P 2, .P 1, .P 0] ∗ dues c [.inr 12, .inr 13, .inr 14] ∗ awaited c 4)
      ⊢ iprop(((arr m ρ c (.Z 0 1) fullShare ∗ outP m ρ c [.Z 0 1, .Z 0 0, .P 3, .P 2, .P 1, .P 0] ∗ dues c [.inr 12, .inr 13, .inr 14] ∗ semVal (rcvC c 4) 0 ∗ kept m ρ c (.Z 1 0) ∗ lent m ρ c 12) -∗ Q ⟨⟩)
        -∗ WP c (k0_part11 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v30 (wv m ρ c) v275 v276) Q) := by
  rw [k0_part11_eq_skeleton]; unfold k0_part11_skel
  simp only [Prog.lift, Prog.bind_op, Prog.bind_ret, Prog.pure_eq_ret]
  iintro ⟨#Hk, VZ01, O, D, A4⟩ HQ
  iapply (wp_look_Z m ρ c 0 1 fullShare rfl) $$ [VZ01]
  · iexact VZ01
  iintro VZ01
  iapply (wp_out_load m ρ c [.Z 0 0, .P 3, .P 2, .P 1, .P 0]) $$ [O]
  · iexact O
  iintro %v O
  iapply (wp_out_store m ρ c (.Z 0 1) [.Z 0 0, .P 3, .P 2, .P 1, .P 0] (off4_eq c) (pay8_eq _ _)) $$ [O]
  · iexact O
  iintro O
  iapply (wp_recv m ρ K c 4 [.inr 12, .inr 13, .inr 14] (by decide) rfl rfl) $$ [D A4]
  · isplitr; · iexact Hk
    isplitl [D]; · iexact D
    iexact A4
  iintro ⟨D, Y4, V⟩
  have h4 : (arr m ρ c (tdst 4) fullShare : sProp 𝕄) ⊢ iprop(kept m ρ c (.Z 1 0) ∗ lent m ρ c 12) := lend_Z m ρ c 12 rfl
  ihave V := h4 $$ V
  icases V with ⟨KZ10, L12⟩
  iapply wp_done
  iapply HQ
  isplitl [VZ01]; · iexact VZ01
  isplitl [O]; · iexact O
  isplitl [D]; · iexact D
  isplitl [Y4]; · iexact Y4
  isplitl [KZ10]; · iexact KZ10
  iexact L12

/-- Window 12 of the body. -/
theorem part12 (v3 v20 v32 : BitVec 32) {Q : (BitVec 32) → sProp 𝕄} :
    iprop(know m ρ K ∗ dues c [.inr 12, .inr 13, .inr 14] ∗ ready c 12 ∗ lent m ρ c 12 ∗ room c 12 ∗ kept m ρ c (.Z 1 0) ∗ outP m ρ c [.Z 0 1, .Z 0 0, .P 3, .P 2, .P 1, .P 0] ∗ awaited c 8)
      ⊢ iprop((∀ v, (flying c 12 ∗ kept m ρ c (.Z 1 0) ∗ outP m ρ c [.Z 1 0, .Z 0 1, .Z 0 0, .P 3, .P 2, .P 1, .P 0] ∗ dues c [.inr 13, .inr 14] ∗ semVal (rcvC c 8) 0 ∗ arr m ρ c (.Z 1 1) fullShare) -∗ Q v)
        -∗ WP c (k0_part12 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v32 (wv m ρ c)) Q) := by
  rw [k0_part12_eq_skeleton]; unfold k0_part12_skel
  simp only [Prog.lift, Prog.bind_op, Prog.bind_ret, Prog.pure_eq_ret]
  iintro ⟨#Hk, D, R12, L12, M12, KZ10, O, A8⟩ HQ
  iapply (wp_go m ρ K c 12 [.inr 13, .inr 14] (dev17_eq c) rfl rfl rfl rfl) $$ [D R12 L12 M12]
  · isplitr; · iexact Hk
    isplitl [D]; · iexact D
    isplitl [R12]; · iexact R12
    isplitl [L12]; · iexact L12
    iexact M12
  iintro ⟨D, F12⟩
  iapply (wp_look_Z m ρ c 1 0 fullShare.left rfl) $$ [KZ10]
  · iexact KZ10
  iintro KZ10
  iapply (wp_out_load m ρ c [.Z 0 1, .Z 0 0, .P 3, .P 2, .P 1, .P 0]) $$ [O]
  · iexact O
  iintro %v O
  iapply (wp_out_store m ρ c (.Z 1 0) [.Z 0 1, .Z 0 0, .P 3, .P 2, .P 1, .P 0] (off5_eq c) (pay9_eq _ _)) $$ [O]
  · iexact O
  iintro O
  iapply (wp_recv m ρ K c 8 [.inr 13, .inr 14] (by decide) rfl rfl) $$ [D A8]
  · isplitr; · iexact Hk
    isplitl [D]; · iexact D
    iexact A8
  iintro ⟨D, Y8, V⟩
  have h8 : (arr m ρ c (tdst 8) fullShare : sProp 𝕄) ⊢ arr m ρ c (.Z 1 1) fullShare := Entails.of_eq rfl
  ihave VZ11 := h8 $$ V
  iapply wp_done
  iapply HQ
  isplitl [F12]; · iexact F12
  isplitl [KZ10]; · iexact KZ10
  isplitl [O]; · iexact O
  isplitl [D]; · iexact D
  isplitl [Y8]; · iexact Y8
  iexact VZ11

/-- Window 13 of the body. -/
theorem part13 (v3 v20 v30 v329 : BitVec 32) {Q : (Σ' (v354 : BitVec 32), FVec F S64x1024 .bf16) → sProp 𝕄} :
    iprop(know m ρ K ∗ arr m ρ c (.Z 1 1) fullShare ∗ outP m ρ c [.Z 1 0, .Z 0 1, .Z 0 0, .P 3, .P 2, .P 1, .P 0] ∗ dues c [.inr 13, .inr 14] ∗ awaited c 5)
      ⊢ iprop((∀ a, (arr m ρ c (.Z 1 1) fullShare ∗ outP m ρ c [.Z 1 1, .Z 1 0, .Z 0 1, .Z 0 0, .P 3, .P 2, .P 1, .P 0] ∗ dues c [.inr 13, .inr 14] ∗ semVal (rcvC c 5) 0 ∗ arr m ρ c (.Z 2 0) fullShare) -∗ Q ⟨a, k0_pay11 (asZ (xv m ρ (org (.Z 2 0) c)))⟩)
        -∗ WP c (k0_part13 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v30 (wv m ρ c) v329) Q) := by
  rw [k0_part13_eq_skeleton]; unfold k0_part13_skel
  simp only [Prog.lift, Prog.bind_op, Prog.bind_ret, Prog.pure_eq_ret]
  iintro ⟨#Hk, VZ11, O, D, A5⟩ HQ
  iapply (wp_look_Z m ρ c 1 1 fullShare rfl) $$ [VZ11]
  · iexact VZ11
  iintro VZ11
  iapply (wp_out_load m ρ c [.Z 1 0, .Z 0 1, .Z 0 0, .P 3, .P 2, .P 1, .P 0]) $$ [O]
  · iexact O
  iintro %v O
  iapply (wp_out_store m ρ c (.Z 1 1) [.Z 1 0, .Z 0 1, .Z 0 0, .P 3, .P 2, .P 1, .P 0] (off6_eq c) (pay10_eq _ _)) $$ [O]
  · iexact O
  iintro O
  iapply (wp_recv m ρ K c 5 [.inr 13, .inr 14] (by decide) rfl rfl) $$ [D A5]
  · isplitr; · iexact Hk
    isplitl [D]; · iexact D
    iexact A5
  iintro ⟨D, Y5, V⟩
  have h5 : (arr m ρ c (tdst 5) fullShare : sProp 𝕄) ⊢ arr m ρ c (.Z 2 0) fullShare := Entails.of_eq rfl
  ihave VZ20 := h5 $$ V
  iapply (wp_look_Z m ρ c 2 0 fullShare rfl) $$ [VZ20]
  · iexact VZ20
  iintro VZ20
  iapply wp_done
  iapply HQ
  isplitl [VZ11]; · iexact VZ11
  isplitl [O]; · iexact O
  isplitl [D]; · iexact D
  isplitl [Y5]; · iexact Y5
  iexact VZ20

/-- Window 14 of the body. -/
theorem part14 (v20 v32 v354 : BitVec 32) {Q : (BitVec 32) → sProp 𝕄} :
    iprop(know m ρ K ∗ outP m ρ c [.Z 1 1, .Z 1 0, .Z 0 1, .Z 0 0, .P 3, .P 2, .P 1, .P 0] ∗ dues c [.inr 13, .inr 14] ∗ awaited c 9 ∗ ready c 13 ∗ room c 13)
      ⊢ iprop((∀ v, (outP m ρ c [.Z 2 0, .Z 1 1, .Z 1 0, .Z 0 1, .Z 0 0, .P 3, .P 2, .P 1, .P 0] ∗ semVal (rcvC c 9) 0 ∗ kept m ρ c (.Z 2 1) ∗ dues c [.inr 14] ∗ flying c 13) -∗ Q v)
        -∗ WP c (k0_part14 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v20 v32 (wv m ρ c) v354 (k0_pay11 (asZ (xv m ρ (org (.Z 2 0) c))))) Q) := by
  rw [k0_part14_eq_skeleton]; unfold k0_part14_skel
  simp only [Prog.lift, Prog.bind_op, Prog.bind_ret, Prog.pure_eq_ret]
  iintro ⟨#Hk, O, D, A9, R13, M13⟩ HQ
  iapply (wp_out_load m ρ c [.Z 1 1, .Z 1 0, .Z 0 1, .Z 0 0, .P 3, .P 2, .P 1, .P 0]) $$ [O]
  · iexact O
  iintro %v O
  iapply (wp_out_store m ρ c (.Z 2 0) [.Z 1 1, .Z 1 0, .Z 0 1, .Z 0 0, .P 3, .P 2, .P 1, .P 0] (off7_eq c) (pay12_eq _ _)) $$ [O]
  · iexact O
  iintro O
  iapply (wp_recv m ρ K c 9 [.inr 13, .inr 14] (by decide) rfl rfl) $$ [D A9]
  · isplitr; · iexact Hk
    isplitl [D]; · iexact D
    iexact A9
  iintro ⟨D, Y9, V⟩
  have h9 : (arr m ρ c (tdst 9) fullShare : sProp 𝕄) ⊢ iprop(kept m ρ c (.Z 2 1) ∗ lent m ρ c 13) := lend_Z m ρ c 13 rfl
  ihave V := h9 $$ V
  icases V with ⟨KZ21, L13⟩
  iapply (wp_go m ρ K c 13 [.inr 14] (dev18_eq c) rfl rfl rfl rfl) $$ [D R13 L13 M13]
  · isplitr; · iexact Hk
    isplitl [D]; · iexact D
    isplitl [R13]; · iexact R13
    isplitl [L13]; · iexact L13
    iexact M13
  iintro ⟨D, F13⟩
  iapply wp_done
  iapply HQ
  isplitl [O]; · iexact O
  isplitl [Y9]; · iexact Y9
  isplitl [KZ21]; · iexact KZ21
  isplitl [D]; · iexact D
  iexact F13

/-- Window 15 of the body. -/
theorem part15 (v3 v20 v30 v382 : BitVec 32) {Q : (BitVec 32) → sProp 𝕄} :
    iprop(know m ρ K ∗ kept m ρ c (.Z 2 1) ∗ outP m ρ c [.Z 2 0, .Z 1 1, .Z 1 0, .Z 0 1, .Z 0 0, .P 3, .P 2, .P 1, .P 0] ∗ dues c [.inr 14] ∗ awaited c 6)
      ⊢ iprop((∀ v, (kept m ρ c (.Z 2 1) ∗ outP m ρ c [.Z 2 1, .Z 2 0, .Z 1 1, .Z 1 0, .Z 0 1, .Z 0 0, .P 3, .P 2, .P 1, .P 0] ∗ dues c [.inr 14] ∗ semVal (rcvC c 6) 0 ∗ arr m ρ c (.Z 3 0) fullShare) -∗ Q v)
        -∗ WP c (k0_part15 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v30 (wv m ρ c) v382) Q) := by
  rw [k0_part15_eq_skeleton]; unfold k0_part15_skel
  simp only [Prog.lift, Prog.bind_op, Prog.bind_ret, Prog.pure_eq_ret]
  iintro ⟨#Hk, KZ21, O, D, A6⟩ HQ
  iapply (wp_look_Z m ρ c 2 1 fullShare.left rfl) $$ [KZ21]
  · iexact KZ21
  iintro KZ21
  iapply (wp_out_load m ρ c [.Z 2 0, .Z 1 1, .Z 1 0, .Z 0 1, .Z 0 0, .P 3, .P 2, .P 1, .P 0]) $$ [O]
  · iexact O
  iintro %v O
  iapply (wp_out_store m ρ c (.Z 2 1) [.Z 2 0, .Z 1 1, .Z 1 0, .Z 0 1, .Z 0 0, .P 3, .P 2, .P 1, .P 0] (off8_eq c) (pay13_eq _ _)) $$ [O]
  · iexact O
  iintro O
  iapply (wp_recv m ρ K c 6 [.inr 14] (by decide) rfl rfl) $$ [D A6]
  · isplitr; · iexact Hk
    isplitl [D]; · iexact D
    iexact A6
  iintro ⟨D, Y6, V⟩
  have h6 : (arr m ρ c (tdst 6) fullShare : sProp 𝕄) ⊢ arr m ρ c (.Z 3 0) fullShare := Entails.of_eq rfl
  ihave VZ30 := h6 $$ V
  iapply wp_done
  iapply HQ
  isplitl [KZ21]; · iexact KZ21
  isplitl [O]; · iexact O
  isplitl [D]; · iexact D
  isplitl [Y6]; · iexact Y6
  iexact VZ30

/-- Window 16 of the body. -/
theorem part16 (v20 v32 v408 : BitVec 32) {Q : (BitVec 32) → sProp 𝕄} :
    iprop(know m ρ K ∗ arr m ρ c (.Z 3 0) fullShare ∗ outP m ρ c [.Z 2 1, .Z 2 0, .Z 1 1, .Z 1 0, .Z 0 1, .Z 0 0, .P 3, .P 2, .P 1, .P 0] ∗ dues c [.inr 14] ∗ awaited c 10 ∗ ready c 14 ∗ room c 14)
      ⊢ iprop((∀ v, (arr m ρ c (.Z 3 0) fullShare ∗ outP m ρ c [.Z 3 0, .Z 2 1, .Z 2 0, .Z 1 1, .Z 1 0, .Z 0 1, .Z 0 0, .P 3, .P 2, .P 1, .P 0] ∗ semVal (rcvC c 10) 0 ∗ kept m ρ c (.Z 3 1) ∗ dues c [] ∗ flying c 14) -∗ Q v)
        -∗ WP c (k0_part16 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v20 v32 (wv m ρ c) v408) Q) := by
  rw [k0_part16_eq_skeleton]; unfold k0_part16_skel
  simp only [Prog.lift, Prog.bind_op, Prog.bind_ret, Prog.pure_eq_ret]
  iintro ⟨#Hk, VZ30, O, D, A10, R14, M14⟩ HQ
  iapply (wp_look_Z m ρ c 3 0 fullShare rfl) $$ [VZ30]
  · iexact VZ30
  iintro VZ30
  iapply (wp_out_load m ρ c [.Z 2 1, .Z 2 0, .Z 1 1, .Z 1 0, .Z 0 1, .Z 0 0, .P 3, .P 2, .P 1, .P 0]) $$ [O]
  · iexact O
  iintro %v O
  iapply (wp_out_store m ρ c (.Z 3 0) [.Z 2 1, .Z 2 0, .Z 1 1, .Z 1 0, .Z 0 1, .Z 0 0, .P 3, .P 2, .P 1, .P 0] (off9_eq c) (pay14_eq _ _)) $$ [O]
  · iexact O
  iintro O
  iapply (wp_recv m ρ K c 10 [.inr 14] (by decide) rfl rfl) $$ [D A10]
  · isplitr; · iexact Hk
    isplitl [D]; · iexact D
    iexact A10
  iintro ⟨D, Y10, V⟩
  have h10 : (arr m ρ c (tdst 10) fullShare : sProp 𝕄) ⊢ iprop(kept m ρ c (.Z 3 1) ∗ lent m ρ c 14) := lend_Z m ρ c 14 rfl
  ihave V := h10 $$ V
  icases V with ⟨KZ31, L14⟩
  iapply (wp_go m ρ K c 14 [] (dev19_eq c) rfl rfl rfl rfl) $$ [D R14 L14 M14]
  · isplitr; · iexact Hk
    isplitl [D]; · iexact D
    isplitl [R14]; · iexact R14
    isplitl [L14]; · iexact L14
    iexact M14
  iintro ⟨D, F14⟩
  iapply wp_done
  iapply HQ
  isplitl [VZ30]; · iexact VZ30
  isplitl [O]; · iexact O
  isplitl [Y10]; · iexact Y10
  isplitl [KZ31]; · iexact KZ31
  isplitl [D]; · iexact D
  iexact F14

/-- Window 17 of the body. -/
theorem part17 (v3 v20 v30 v435 : BitVec 32) {Q : (BitVec 32) → sProp 𝕄} :
    iprop(know m ρ K ∗ kept m ρ c (.Z 3 1) ∗ outP m ρ c [.Z 3 0, .Z 2 1, .Z 2 0, .Z 1 1, .Z 1 0, .Z 0 1, .Z 0 0, .P 3, .P 2, .P 1, .P 0] ∗ dues c [] ∗ awaited c 11)
      ⊢ iprop((∀ v, (kept m ρ c (.Z 3 1) ∗ outP m ρ c [.Z 3 1, .Z 3 0, .Z 2 1, .Z 2 0, .Z 1 1, .Z 1 0, .Z 0 1, .Z 0 0, .P 3, .P 2, .P 1, .P 0] ∗ dues c [] ∗ semVal (rcvC c 11) 0 ∗ arr m ρ c (.Z 0 2) fullShare) -∗ Q v)
        -∗ WP c (k0_part17 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v30 (wv m ρ c) v435) Q) := by
  rw [k0_part17_eq_skeleton]; unfold k0_part17_skel
  simp only [Prog.lift, Prog.bind_op, Prog.bind_ret, Prog.pure_eq_ret]
  iintro ⟨#Hk, KZ31, O, D, A11⟩ HQ
  iapply (wp_look_Z m ρ c 3 1 fullShare.left rfl) $$ [KZ31]
  · iexact KZ31
  iintro KZ31
  iapply (wp_out_load m ρ c [.Z 3 0, .Z 2 1, .Z 2 0, .Z 1 1, .Z 1 0, .Z 0 1, .Z 0 0, .P 3, .P 2, .P 1, .P 0]) $$ [O]
  · iexact O
  iintro %v O
  iapply (wp_out_store m ρ c (.Z 3 1) [.Z 3 0, .Z 2 1, .Z 2 0, .Z 1 1, .Z 1 0, .Z 0 1, .Z 0 0, .P 3, .P 2, .P 1, .P 0] (off10_eq c) (pay15_eq _ _)) $$ [O]
  · iexact O
  iintro O
  iapply (wp_recv m ρ K c 11 [] (by decide) rfl rfl) $$ [D A11]
  · isplitr; · iexact Hk
    isplitl [D]; · iexact D
    iexact A11
  iintro ⟨D, Y11, V⟩
  have h11 : (arr m ρ c (tdst 11) fullShare : sProp 𝕄) ⊢ arr m ρ c (.Z 0 2) fullShare := Entails.of_eq rfl
  ihave VZ02 := h11 $$ V
  iapply wp_done
  iapply HQ
  isplitl [KZ31]; · iexact KZ31
  isplitl [O]; · iexact O
  isplitl [D]; · iexact D
  isplitl [Y11]; · iexact Y11
  iexact VZ02

/-- Window 18 of the body. -/
theorem part18 (v3 v20 v30 v462 : BitVec 32) {Q : (Σ' (v484 : BitVec 32), FVec F S64x64 .f32) → sProp 𝕄} :
    iprop(know m ρ K ∗ arr m ρ c (.Z 0 2) fullShare ∗ outP m ρ c [.Z 3 1, .Z 3 0, .Z 2 1, .Z 2 0, .Z 1 1, .Z 1 0, .Z 0 1, .Z 0 0, .P 3, .P 2, .P 1, .P 0] ∗ dues c [] ∗ awaited c 12)
      ⊢ iprop((∀ a, (arr m ρ c (.Z 0 2) fullShare ∗ outP m ρ c [.Z 0 2, .Z 3 1, .Z 3 0, .Z 2 1, .Z 2 0, .Z 1 1, .Z 1 0, .Z 0 1, .Z 0 0, .P 3, .P 2, .P 1, .P 0] ∗ dues c [] ∗ semVal (rcvC c 12) 0 ∗ arr m ρ c (.Z 1 2) fullShare) -∗ Q ⟨a, gemm (wv m ρ c) (xv m ρ (org (.Z 1 2) c))⟩)
        -∗ WP c (k0_part18 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v30 (wv m ρ c) v462) Q) := by
  rw [k0_part18_eq_skeleton]; unfold k0_part18_skel
  simp only [Prog.lift, Prog.bind_op, Prog.bind_ret, Prog.pure_eq_ret]
  iintro ⟨#Hk, VZ02, O, D, A12⟩ HQ
  iapply (wp_look_Z m ρ c 0 2 fullShare rfl) $$ [VZ02]
  · iexact VZ02
  iintro VZ02
  iapply (wp_out_load m ρ c [.Z 3 1, .Z 3 0, .Z 2 1, .Z 2 0, .Z 1 1, .Z 1 0, .Z 0 1, .Z 0 0, .P 3, .P 2, .P 1, .P 0]) $$ [O]
  · iexact O
  iintro %v O
  iapply (wp_out_store m ρ c (.Z 0 2) [.Z 3 1, .Z 3 0, .Z 2 1, .Z 2 0, .Z 1 1, .Z 1 0, .Z 0 1, .Z 0 0, .P 3, .P 2, .P 1, .P 0] (off11_eq c) (pay16_eq _ _)) $$ [O]
  · iexact O
  iintro O
  iapply (wp_recv m ρ K c 12 [] (by decide) rfl rfl) $$ [D A12]
  · isplitr; · iexact Hk
    isplitl [D]; · iexact D
    iexact A12
  iintro ⟨D, Y12, V⟩
  have h12 : (arr m ρ c (tdst 12) fullShare : sProp 𝕄) ⊢ arr m ρ c (.Z 1 2) fullShare := Entails.of_eq rfl
  ihave VZ12 := h12 $$ V
  iapply (wp_look_Z m ρ c 1 2 fullShare rfl) $$ [VZ12]
  · iexact VZ12
  iintro VZ12
  rw [pay17_eq]
  iapply wp_done
  iapply HQ
  isplitl [VZ02]; · iexact VZ02
  isplitl [O]; · iexact O
  isplitl [D]; · iexact D
  isplitl [Y12]; · iexact Y12
  iexact VZ12

/-- Window 19 of the body. -/
theorem part19 (v3 v20 v32 v484 : BitVec 32) {Q : (PUnit) → sProp 𝕄} :
    iprop(know m ρ K ∗ outP m ρ c [.Z 0 2, .Z 3 1, .Z 3 0, .Z 2 1, .Z 2 0, .Z 1 1, .Z 1 0, .Z 0 1, .Z 0 0, .P 3, .P 2, .P 1, .P 0] ∗ dues c [] ∗ awaited c 13)
      ⊢ iprop(((dues c [] ∗ semVal (rcvC c 13) 0 ∗ arr m ρ c (.Z 2 2) fullShare ∗ outP m ρ c [.Z 2 2, .Z 1 2, .Z 0 2, .Z 3 1, .Z 3 0, .Z 2 1, .Z 2 0, .Z 1 1, .Z 1 0, .Z 0 1, .Z 0 0, .P 3, .P 2, .P 1, .P 0]) -∗ Q ⟨⟩)
        -∗ WP c (k0_part19 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v32 (wv m ρ c) v484 (gemm (wv m ρ c) (xv m ρ (org (.Z 1 2) c)))) Q) := by
  rw [k0_part19_eq_skeleton]; unfold k0_part19_skel
  simp only [Prog.lift, Prog.bind_op, Prog.bind_ret, Prog.pure_eq_ret]
  iintro ⟨#Hk, O, D, A13⟩ HQ
  iapply (wp_out_load m ρ c [.Z 0 2, .Z 3 1, .Z 3 0, .Z 2 1, .Z 2 0, .Z 1 1, .Z 1 0, .Z 0 1, .Z 0 0, .P 3, .P 2, .P 1, .P 0]) $$ [O]
  · iexact O
  iintro %v O
  iapply (wp_out_store m ρ c (.Z 1 2) [.Z 0 2, .Z 3 1, .Z 3 0, .Z 2 1, .Z 2 0, .Z 1 1, .Z 1 0, .Z 0 1, .Z 0 0, .P 3, .P 2, .P 1, .P 0] (off12_eq c) rfl) $$ [O]
  · iexact O
  iintro O
  iapply (wp_recv m ρ K c 13 [] (by decide) rfl rfl) $$ [D A13]
  · isplitr; · iexact Hk
    isplitl [D]; · iexact D
    iexact A13
  iintro ⟨D, Y13, V⟩
  have h13 : (arr m ρ c (tdst 13) fullShare : sProp 𝕄) ⊢ arr m ρ c (.Z 2 2) fullShare := Entails.of_eq rfl
  ihave VZ22 := h13 $$ V
  iapply (wp_look_Z m ρ c 2 2 fullShare rfl) $$ [VZ22]
  · iexact VZ22
  iintro VZ22
  iapply (wp_out_load m ρ c [.Z 1 2, .Z 0 2, .Z 3 1, .Z 3 0, .Z 2 1, .Z 2 0, .Z 1 1, .Z 1 0, .Z 0 1, .Z 0 0, .P 3, .P 2, .P 1, .P 0]) $$ [O]
  · iexact O
  iintro %v O
  iapply (wp_out_store m ρ c (.Z 2 2) [.Z 1 2, .Z 0 2, .Z 3 1, .Z 3 0, .Z 2 1, .Z 2 0, .Z 1 1, .Z 1 0, .Z 0 1, .Z 0 0, .P 3, .P 2, .P 1, .P 0] (off13_eq c) (pay18_eq _ _)) $$ [O]
  · iexact O
  iintro O
  iapply wp_done
  iapply HQ
  isplitl [D]; · iexact D
  isplitl [Y13]; · iexact Y13
  isplitl [VZ22]; · iexact VZ22
  iexact O

/-- Window 20 of the body. -/
theorem part20 (v3 v20 v32 : BitVec 32) {Q : (PUnit) → sProp 𝕄} :
    iprop(know m ρ K ∗ dues c [] ∗ awaited c 14 ∗ outP m ρ c [.Z 2 2, .Z 1 2, .Z 0 2, .Z 3 1, .Z 3 0, .Z 2 1, .Z 2 0, .Z 1 1, .Z 1 0, .Z 0 1, .Z 0 0, .P 3, .P 2, .P 1, .P 0])
      ⊢ iprop(((dues c [] ∗ semVal (rcvC c 14) 0 ∗ arr m ρ c (.Z 3 2) fullShare ∗ outP m ρ c [.Z 3 2, .Z 2 2, .Z 1 2, .Z 0 2, .Z 3 1, .Z 3 0, .Z 2 1, .Z 2 0, .Z 1 1, .Z 1 0, .Z 0 1, .Z 0 0, .P 3, .P 2, .P 1, .P 0]) -∗ Q ⟨⟩)
        -∗ WP c (k0_part20 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7 c v3 v20 v32 (wv m ρ c)) Q) := by
  rw [k0_part20_eq_skeleton]; unfold k0_part20_skel
  simp only [Prog.lift, Prog.bind_op, Prog.bind_ret, Prog.pure_eq_ret]
  iintro ⟨#Hk, D, A14, O⟩ HQ
  iapply (wp_recv m ρ K c 14 [] (by decide) rfl rfl) $$ [D A14]
  · isplitr; · iexact Hk
    isplitl [D]; · iexact D
    iexact A14
  iintro ⟨D, Y14, V⟩
  have h14 : (arr m ρ c (tdst 14) fullShare : sProp 𝕄) ⊢ arr m ρ c (.Z 3 2) fullShare := Entails.of_eq rfl
  ihave VZ32 := h14 $$ V
  iapply (wp_look_Z m ρ c 3 2 fullShare rfl) $$ [VZ32]
  · iexact VZ32
  iintro VZ32
  iapply (wp_out_load m ρ c [.Z 2 2, .Z 1 2, .Z 0 2, .Z 3 1, .Z 3 0, .Z 2 1, .Z 2 0, .Z 1 1, .Z 1 0, .Z 0 1, .Z 0 0, .P 3, .P 2, .P 1, .P 0]) $$ [O]
  · iexact O
  iintro %v O
  iapply (wp_out_store m ρ c (.Z 3 2) [.Z 2 2, .Z 1 2, .Z 0 2, .Z 3 1, .Z 3 0, .Z 2 1, .Z 2 0, .Z 1 1, .Z 1 0, .Z 0 1, .Z 0 0, .P 3, .P 2, .P 1, .P 0] (off14_eq c) (pay19_eq _ _)) $$ [O]
  · iexact O
  iintro O
  iapply wp_done
  iapply HQ
  isplitl [D]; · iexact D
  isplitl [Y14]; · iexact Y14
  isplitl [VZ32]; · iexact VZ32
  iexact O

/-- Window 21 of the body. -/
theorem part21 {Q : (PUnit) → sProp 𝕄} :
    iprop(know m ρ K ∗ dues c [] ∗ flying c 0 ∗ flying c 1 ∗ flying c 2 ∗ flying c 3)
      ⊢ iprop(((semVal (sndC c 0) 0 ∗ lent m ρ c 0 ∗ semVal (sndC c 1) 0 ∗ lent m ρ c 1 ∗ semVal (sndC c 2) 0 ∗ lent m ρ c 2 ∗ dues c [] ∗ semVal (sndC c 3) 0 ∗ lent m ρ c 3) -∗ Q ⟨⟩)
        -∗ WP c (k0_part21 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7) Q) := by
  rw [k0_part21_eq_skeleton]; unfold k0_part21_skel
  simp only [Prog.lift, Prog.bind_op, Prog.bind_ret, Prog.pure_eq_ret]
  iintro ⟨#Hk, D, F0, F1, F2, F3⟩ HQ
  iapply (wp_sent m ρ K c 0 rfl rfl) $$ [D F0]
  · isplitr; · iexact Hk
    isplitl [D]; · iexact D
    iexact F0
  iintro ⟨D, X0, L0⟩
  iapply (wp_sent m ρ K c 1 rfl rfl) $$ [D F1]
  · isplitr; · iexact Hk
    isplitl [D]; · iexact D
    iexact F1
  iintro ⟨D, X1, L1⟩
  iapply (wp_sent m ρ K c 2 rfl rfl) $$ [D F2]
  · isplitr; · iexact Hk
    isplitl [D]; · iexact D
    iexact F2
  iintro ⟨D, X2, L2⟩
  iapply (wp_sent m ρ K c 3 rfl rfl) $$ [D F3]
  · isplitr; · iexact Hk
    isplitl [D]; · iexact D
    iexact F3
  iintro ⟨D, X3, L3⟩
  iapply wp_done
  iapply HQ
  isplitl [X0]; · iexact X0
  isplitl [L0]; · iexact L0
  isplitl [X1]; · iexact X1
  isplitl [L1]; · iexact L1
  isplitl [X2]; · iexact X2
  isplitl [L2]; · iexact L2
  isplitl [D]; · iexact D
  isplitl [X3]; · iexact X3
  iexact L3

/-- Window 22 of the body. -/
theorem part22 {Q : (PUnit) → sProp 𝕄} :
    iprop(know m ρ K ∗ dues c [] ∗ flying c 4 ∗ flying c 5 ∗ flying c 6)
      ⊢ iprop(((semVal (sndC c 4) 0 ∗ lent m ρ c 4 ∗ semVal (sndC c 5) 0 ∗ lent m ρ c 5 ∗ dues c [] ∗ semVal (sndC c 6) 0 ∗ lent m ρ c 6) -∗ Q ⟨⟩)
        -∗ WP c (k0_part22 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7) Q) := by
  rw [k0_part22_eq_skeleton]; unfold k0_part22_skel
  simp only [Prog.lift, Prog.bind_op, Prog.bind_ret, Prog.pure_eq_ret]
  iintro ⟨#Hk, D, F4, F5, F6⟩ HQ
  iapply (wp_sent m ρ K c 4 rfl rfl) $$ [D F4]
  · isplitr; · iexact Hk
    isplitl [D]; · iexact D
    iexact F4
  iintro ⟨D, X4, L4⟩
  iapply (wp_sent m ρ K c 5 rfl rfl) $$ [D F5]
  · isplitr; · iexact Hk
    isplitl [D]; · iexact D
    iexact F5
  iintro ⟨D, X5, L5⟩
  iapply (wp_sent m ρ K c 6 rfl rfl) $$ [D F6]
  · isplitr; · iexact Hk
    isplitl [D]; · iexact D
    iexact F6
  iintro ⟨D, X6, L6⟩
  iapply wp_done
  iapply HQ
  isplitl [X4]; · iexact X4
  isplitl [L4]; · iexact L4
  isplitl [X5]; · iexact X5
  isplitl [L5]; · iexact L5
  isplitl [D]; · iexact D
  isplitl [X6]; · iexact X6
  iexact L6

/-- Window 23 of the body. -/
theorem part23 {Q : (PUnit) → sProp 𝕄} :
    iprop(know m ρ K ∗ dues c [] ∗ flying c 7 ∗ flying c 8 ∗ flying c 9 ∗ flying c 10)
      ⊢ iprop(((semVal (sndC c 7) 0 ∗ lent m ρ c 7 ∗ semVal (sndC c 8) 0 ∗ lent m ρ c 8 ∗ semVal (sndC c 9) 0 ∗ lent m ρ c 9 ∗ dues c [] ∗ semVal (sndC c 10) 0 ∗ lent m ρ c 10) -∗ Q ⟨⟩)
        -∗ WP c (k0_part23 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7) Q) := by
  rw [k0_part23_eq_skeleton]; unfold k0_part23_skel
  simp only [Prog.lift, Prog.bind_op, Prog.bind_ret, Prog.pure_eq_ret]
  iintro ⟨#Hk, D, F7, F8, F9, F10⟩ HQ
  iapply (wp_sent m ρ K c 7 rfl rfl) $$ [D F7]
  · isplitr; · iexact Hk
    isplitl [D]; · iexact D
    iexact F7
  iintro ⟨D, X7, L7⟩
  iapply (wp_sent m ρ K c 8 rfl rfl) $$ [D F8]
  · isplitr; · iexact Hk
    isplitl [D]; · iexact D
    iexact F8
  iintro ⟨D, X8, L8⟩
  iapply (wp_sent m ρ K c 9 rfl rfl) $$ [D F9]
  · isplitr; · iexact Hk
    isplitl [D]; · iexact D
    iexact F9
  iintro ⟨D, X9, L9⟩
  iapply (wp_sent m ρ K c 10 rfl rfl) $$ [D F10]
  · isplitr; · iexact Hk
    isplitl [D]; · iexact D
    iexact F10
  iintro ⟨D, X10, L10⟩
  iapply wp_done
  iapply HQ
  isplitl [X7]; · iexact X7
  isplitl [L7]; · iexact L7
  isplitl [X8]; · iexact X8
  isplitl [L8]; · iexact L8
  isplitl [X9]; · iexact X9
  isplitl [L9]; · iexact L9
  isplitl [D]; · iexact D
  isplitl [X10]; · iexact X10
  iexact L10

/-- Window 24 of the body. -/
theorem part24 {Q : (PUnit) → sProp 𝕄} :
    iprop(know m ρ K ∗ dues c [] ∗ flying c 11 ∗ flying c 12 ∗ flying c 13)
      ⊢ iprop(((semVal (sndC c 11) 0 ∗ lent m ρ c 11 ∗ semVal (sndC c 12) 0 ∗ lent m ρ c 12 ∗ dues c [] ∗ semVal (sndC c 13) 0 ∗ lent m ρ c 13) -∗ Q ⟨⟩)
        -∗ WP c (k0_part24 (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7) Q) := by
  rw [k0_part24_eq_skeleton]; unfold k0_part24_skel
  simp only [Prog.lift, Prog.bind_op, Prog.bind_ret, Prog.pure_eq_ret]
  iintro ⟨#Hk, D, F11, F12, F13⟩ HQ
  iapply (wp_sent m ρ K c 11 rfl rfl) $$ [D F11]
  · isplitr; · iexact Hk
    isplitl [D]; · iexact D
    iexact F11
  iintro ⟨D, X11, L11⟩
  iapply (wp_sent m ρ K c 12 rfl rfl) $$ [D F12]
  · isplitr; · iexact Hk
    isplitl [D]; · iexact D
    iexact F12
  iintro ⟨D, X12, L12⟩
  iapply (wp_sent m ρ K c 13 rfl rfl) $$ [D F13]
  · isplitr; · iexact Hk
    isplitl [D]; · iexact D
    iexact F13
  iintro ⟨D, X13, L13⟩
  iapply wp_done
  iapply HQ
  isplitl [X11]; · iexact X11
  isplitl [L11]; · iexact L11
  isplitl [X12]; · iexact X12
  isplitl [L12]; · iexact L12
  isplitl [D]; · iexact D
  isplitl [X13]; · iexact X13
  iexact L13

/-! ## The whole body -/

/-- One window after another. -/
theorem wp_then {c : Dev nD} {α β : Type} {p : Prog (TpuEff nD τ sig (Elt F) Λ₀ .tc) α} {k : α → Prog (TpuEff nD τ sig (Elt F) Λ₀ .tc) β} {Q : β → sProp 𝕄} :
    (WP c p (fun a => WP c (k a) Q) : sProp 𝕄) ⊢ WP c (p >>= k) Q := by
  unfold WP; rw [wp_bind]

/-- What the fifteen transfers of a device start from: tokens and positions. -/
def readies : sProp 𝕄 := iprop(ready c 0 ∗ ready c 1 ∗ ready c 2 ∗ ready c 3 ∗ ready c 4 ∗ ready c 5 ∗ ready c 6 ∗ ready c 7 ∗ ready c 8 ∗ ready c 9 ∗ ready c 10 ∗ ready c 11 ∗ ready c 12 ∗ ready c 13 ∗ ready c 14)
/-- What its fifteen arrivals start from: credits and positions. -/
def arrivals : sProp 𝕄 := iprop(awaited c 0 ∗ awaited c 1 ∗ awaited c 2 ∗ awaited c 3 ∗ awaited c 4 ∗ awaited c 5 ∗ awaited c 6 ∗ awaited c 7 ∗ awaited c 8 ∗ awaited c 9 ∗ awaited c 10 ∗ awaited c 11 ∗ awaited c 12 ∗ awaited c 13 ∗ awaited c 14)
/-- The counters of its fifteen send cells, and of its fifteen receive cells, at zero. -/
def sentZero : sProp 𝕄 := iprop(semVal (sndC c 0) 0 ∗ semVal (sndC c 1) 0 ∗ semVal (sndC c 2) 0 ∗ semVal (sndC c 3) 0 ∗ semVal (sndC c 4) 0 ∗ semVal (sndC c 5) 0 ∗ semVal (sndC c 6) 0 ∗ semVal (sndC c 7) 0 ∗ semVal (sndC c 8) 0 ∗ semVal (sndC c 9) 0 ∗ semVal (sndC c 10) 0 ∗ semVal (sndC c 11) 0 ∗ semVal (sndC c 12) 0 ∗ semVal (sndC c 13) 0 ∗ semVal (sndC c 14) 0)
@[inherit_doc sentZero] def recvZero : sProp 𝕄 := iprop(semVal (rcvC c 0) 0 ∗ semVal (rcvC c 1) 0 ∗ semVal (rcvC c 2) 0 ∗ semVal (rcvC c 3) 0 ∗ semVal (rcvC c 4) 0 ∗ semVal (rcvC c 5) 0 ∗ semVal (rcvC c 6) 0 ∗ semVal (rcvC c 7) 0 ∗ semVal (rcvC c 8) 0 ∗ semVal (rcvC c 9) 0 ∗ semVal (rcvC c 10) 0 ∗ semVal (rcvC c 11) 0 ∗ semVal (rcvC c 12) 0 ∗ semVal (rcvC c 13) 0 ∗ semVal (rcvC c 14) 0)

/-- The slots in the order their blocks of the result are stored, last first. -/
def stored : List Slot := [.Z 3 2, .Z 2 2, .Z 1 2, .Z 0 2, .Z 3 1, .Z 3 0, .Z 2 1, .Z 2 0, .Z 1 1, .Z 1 0, .Z 0 1, .Z 0 0, .P 3, .P 2, .P 1, .P 0]

/-- What the body starts from, and what it ends in. -/
def bodyIn : sProp 𝕄 :=
  iprop(know m ρ K ∗ dues c allPays ∗ meeting c ∗ slotsFree c ∗ operands m ρ c ∗ readies c ∗ arrivals c ∗ outP m ρ c [])
@[inherit_doc bodyIn] def bodyOut : sProp 𝕄 :=
  iprop(dues c [] ∗ semVal (barC c) 0 ∗ operands m ρ c ∗ slotsFree c ∗ sentZero c ∗ recvZero c ∗ outP m ρ c stored)

set_option maxHeartbeats 1600000 in
/-- The body's run on device `c`: every transfer is sent and awaited, every slot comes back, and the sixteen blocks of the result
    are stored. -/
theorem run_body {Q : PUnit → sProp 𝕄} :
    (bodyIn m ρ K c : sProp 𝕄) ⊢ iprop((bodyOut m ρ c -∗ Q ⟨⟩)
      -∗ WP c (cc0_body (F := F) xB (Memref.isWhole_whole _) wB (Memref.isWhole_whole _) oB (Memref.isWhole_whole _) pB (Memref.isWhole_whole _) zB (Memref.isWhole_whole _) cc0_scratch2 cc0_scratch3 cc0_scratch4 cc0_scratch5 cc0_scratch6 cc0_scratch7) Q) := by
  rw [cc0_body_eq_skeleton]; unfold cc0_body_skel bodyIn readies arrivals
  iintro ⟨#Hk, D, HM, HF, HOp, HR, HAr, O⟩ HQ
  icases HR with ⟨R0, R1, R2, R3, R4, R5, R6, R7, R8, R9, R10, R11, R12, R13, R14⟩
  icases HAr with ⟨A0, A1, A2, A3, A4, A5, A6, A7, A8, A9, A10, A11, A12, A13, A14⟩
  iapply wp_then; iapply part1; iintro %v2 %v3 %v20 %v24 %v28 %v30 %v32
  iapply wp_then; iapply (part2 m ρ K c _ _ _ _) $$ [D HM HF HOp R0]
  · isplitr; · iexact Hk
    isplitl [D]; · iexact D
    isplitl [HM]; · iexact HM
    isplitl [HF]; · iexact HF
    isplitl [HOp]; · iexact HOp
    iexact R0
  iintro ⟨D, HZ, HOp, B0, M2, B2, B3, KP0, L1, L3, L7, F0⟩
  unfold barPay
  icases B2 with ⟨M7, M8, M9, M10, M13, M14⟩
  icases B3 with ⟨M3, M4, M5, M6, M11, M12⟩
  ihave M1 := (Entails.of_eq rfl : (room (F := F) c 1 : sProp 𝕄) ⊢ room c 1) $$ B0
  iapply wp_then; iapply (part3 m ρ K c _ _ _) $$ [D R1 L1 M1 R3 L3 M3]
  · isplitr; · iexact Hk
    isplitl [D]; · iexact D
    isplitl [R1]; · iexact R1
    isplitl [L1]; · iexact L1
    isplitl [M1]; · iexact M1
    isplitl [R3]; · iexact R3
    isplitl [L3]; · iexact L3
    iexact M3
  iintro ⟨F1, D, F3⟩
  iapply wp_then; iapply (part4 m ρ K c _ _) $$ [D R7 L7 M7 KP0 O A0]
  · isplitr; · iexact Hk
    isplitl [D]; · iexact D
    isplitl [R7]; · iexact R7
    isplitl [L7]; · iexact L7
    isplitl [M7]; · iexact M7
    isplitl [KP0]; · iexact KP0
    isplitl [O]; · iexact O
    iexact A0
  iintro ⟨F7, KP0, O, D, Y0, KP1, L2, L4, L8⟩
  iapply wp_then; iapply (part5 m ρ K c _ _ _ _) $$ [D R2 L2 M2 R4 L4 M4 R8 L8 M8]
  · isplitr; · iexact Hk
    isplitl [D]; · iexact D
    isplitl [R2]; · iexact R2
    isplitl [L2]; · iexact L2
    isplitl [M2]; · iexact M2
    isplitl [R4]; · iexact R4
    isplitl [L4]; · iexact L4
    isplitl [M4]; · iexact M4
    isplitl [R8]; · iexact R8
    isplitl [L8]; · iexact L8
    iexact M8
  iintro %a ⟨F2, F4, D, F8⟩
  iapply wp_then; iapply (part6 m ρ K c _ _ _) $$ [KP1 O D A1 R5 M5]
  · isplitr; · iexact Hk
    isplitl [KP1]; · iexact KP1
    isplitl [O]; · iexact O
    isplitl [D]; · iexact D
    isplitl [A1]; · iexact A1
    isplitl [R5]; · iexact R5
    iexact M5
  iintro ⟨KP1, O, Y1, KP2, L9, D, F5⟩
  iapply wp_then; iapply (part7 m ρ K c _ _ _ _) $$ [D R9 L9 M9 KP2 O]
  · isplitr; · iexact Hk
    isplitl [D]; · iexact D
    isplitl [R9]; · iexact R9
    isplitl [L9]; · iexact L9
    isplitl [M9]; · iexact M9
    isplitl [KP2]; · iexact KP2
    iexact O
  iintro ⟨D, F9, KP2, O⟩
  iapply wp_then; iapply (part8 m ρ K c _ _ _ _) $$ [D A2 R6 M6 R10 M10]
  · isplitr; · iexact Hk
    isplitl [D]; · iexact D
    isplitl [A2]; · iexact A2
    isplitl [R6]; · iexact R6
    isplitl [M6]; · iexact M6
    isplitl [R10]; · iexact R10
    iexact M10
  iintro %a %b %d ⟨Y2, KP3, F6, D, F10⟩
  iapply wp_then; iapply (part9 m ρ K c _ _ _ _) $$ [KP3 O D A3]
  · isplitr; · iexact Hk
    isplitl [KP3]; · iexact KP3
    isplitl [O]; · iexact O
    isplitl [D]; · iexact D
    iexact A3
  iintro ⟨KP3, O, D, Y3, KZ00, L11⟩
  iapply wp_then; iapply (part10 m ρ K c _ _ _) $$ [D R11 L11 M11 KZ00 O A7]
  · isplitr; · iexact Hk
    isplitl [D]; · iexact D
    isplitl [R11]; · iexact R11
    isplitl [L11]; · iexact L11
    isplitl [M11]; · iexact M11
    isplitl [KZ00]; · iexact KZ00
    isplitl [O]; · iexact O
    iexact A7
  iintro %a %b ⟨F11, KZ00, O, D, Y7, VZ01⟩
  iapply wp_then; iapply (part11 m ρ K c _ _ _) $$ [VZ01 O D A4]
  · isplitr; · iexact Hk
    isplitl [VZ01]; · iexact VZ01
    isplitl [O]; · iexact O
    isplitl [D]; · iexact D
    iexact A4
  iintro ⟨VZ01, O, D, Y4, KZ10, L12⟩
  iapply wp_then; iapply (part12 m ρ K c _ _ _) $$ [D R12 L12 M12 KZ10 O A8]
  · isplitr; · iexact Hk
    isplitl [D]; · iexact D
    isplitl [R12]; · iexact R12
    isplitl [L12]; · iexact L12
    isplitl [M12]; · iexact M12
    isplitl [KZ10]; · iexact KZ10
    isplitl [O]; · iexact O
    iexact A8
  iintro %a ⟨F12, KZ10, O, D, Y8, VZ11⟩
  iapply wp_then; iapply (part13 m ρ K c _ _ _ _) $$ [VZ11 O D A5]
  · isplitr; · iexact Hk
    isplitl [VZ11]; · iexact VZ11
    isplitl [O]; · iexact O
    isplitl [D]; · iexact D
    iexact A5
  iintro %a ⟨VZ11, O, D, Y5, VZ20⟩
  iapply wp_then; iapply (part14 m ρ K c _ _ _) $$ [O D A9 R13 M13]
  · isplitr; · iexact Hk
    isplitl [O]; · iexact O
    isplitl [D]; · iexact D
    isplitl [A9]; · iexact A9
    isplitl [R13]; · iexact R13
    iexact M13
  iintro %a ⟨O, Y9, KZ21, D, F13⟩
  iapply wp_then; iapply (part15 m ρ K c _ _ _ _) $$ [KZ21 O D A6]
  · isplitr; · iexact Hk
    isplitl [KZ21]; · iexact KZ21
    isplitl [O]; · iexact O
    isplitl [D]; · iexact D
    iexact A6
  iintro %a ⟨KZ21, O, D, Y6, VZ30⟩
  iapply wp_then; iapply (part16 m ρ K c _ _ _) $$ [VZ30 O D A10 R14 M14]
  · isplitr; · iexact Hk
    isplitl [VZ30]; · iexact VZ30
    isplitl [O]; · iexact O
    isplitl [D]; · iexact D
    isplitl [A10]; · iexact A10
    isplitl [R14]; · iexact R14
    iexact M14
  iintro %a ⟨VZ30, O, Y10, KZ31, D, F14⟩
  iapply wp_then; iapply (part17 m ρ K c _ _ _ _) $$ [KZ31 O D A11]
  · isplitr; · iexact Hk
    isplitl [KZ31]; · iexact KZ31
    isplitl [O]; · iexact O
    isplitl [D]; · iexact D
    iexact A11
  iintro %a ⟨KZ31, O, D, Y11, VZ02⟩
  iapply wp_then; iapply (part18 m ρ K c _ _ _ _) $$ [VZ02 O D A12]
  · isplitr; · iexact Hk
    isplitl [VZ02]; · iexact VZ02
    isplitl [O]; · iexact O
    isplitl [D]; · iexact D
    iexact A12
  iintro %a ⟨VZ02, O, D, Y12, VZ12⟩
  iapply wp_then; iapply (part19 m ρ K c _ _ _ _) $$ [O D A13]
  · isplitr; · iexact Hk
    isplitl [O]; · iexact O
    isplitl [D]; · iexact D
    iexact A13
  iintro ⟨D, Y13, VZ22, O⟩
  iapply wp_then; iapply (part20 m ρ K c _ _ _) $$ [D A14 O]
  · isplitr; · iexact Hk
    isplitl [D]; · iexact D
    isplitl [A14]; · iexact A14
    iexact O
  iintro ⟨D, Y14, VZ32, O⟩
  iapply wp_then; iapply (part21 m ρ K c) $$ [D F0 F1 F2 F3]
  · isplitr; · iexact Hk
    isplitl [D]; · iexact D
    isplitl [F0]; · iexact F0
    isplitl [F1]; · iexact F1
    isplitl [F2]; · iexact F2
    iexact F3
  iintro ⟨X0, L0, X1, L1, X2, L2, D, X3, L3⟩
  iapply wp_then; iapply (part22 m ρ K c) $$ [D F4 F5 F6]
  · isplitr; · iexact Hk
    isplitl [D]; · iexact D
    isplitl [F4]; · iexact F4
    isplitl [F5]; · iexact F5
    iexact F6
  iintro ⟨X4, L4, X5, L5, D, X6, L6⟩
  iapply wp_then; iapply (part23 m ρ K c) $$ [D F7 F8 F9 F10]
  · isplitr; · iexact Hk
    isplitl [D]; · iexact D
    isplitl [F7]; · iexact F7
    isplitl [F8]; · iexact F8
    isplitl [F9]; · iexact F9
    iexact F10
  iintro ⟨X7, L7, X8, L8, X9, L9, D, X10, L10⟩
  iapply wp_then; iapply (part24 m ρ K c) $$ [D F11 F12 F13]
  · isplitr; · iexact Hk
    isplitl [D]; · iexact D
    isplitl [F11]; · iexact F11
    isplitl [F12]; · iexact F12
    iexact F13
  iintro ⟨X11, L11, X12, L12, D, X13, L13⟩
  simp only [Prog.lift, Prog.bind_op, Prog.bind_ret, Prog.pure_eq_ret]
  iapply (wp_sent m ρ K c 14 rfl rfl) $$ [D F14]
  · isplitr; · iexact Hk
    isplitl [D]; · iexact D
    iexact F14
  iintro ⟨D, X14, L14⟩
  iapply wp_done; iapply HQ
  unfold bodyOut slotsFree sentZero recvZero stored
  isplitl [D]; · iexact D
  isplitl [HZ]; · iexact HZ
  isplitl [HOp]; · iexact HOp
  isplitl [KP0 L0 L1 L3 L7 KP1 L2 L4 L8 KP2 L5 L9 KP3 L6 L10 KZ00 L11 VZ01 VZ02 KZ10 L12 VZ11 VZ12 VZ20 KZ21 L13 VZ22 VZ30 KZ31 L14 VZ32]
  · isplitl [KP0 L0 L1 L3 L7 KP1 L2 L4 L8 KP2 L5 L9 KP3 L6 L10]
    · isplitl [KP0 L0 L1 L3 L7]
      · iapply (arr_free m ρ c (.P 0))
        iapply (back_P0 m ρ c)
        isplitl [KP0]; · iexact KP0
        isplitl [L0]; · iexact L0
        isplitl [L1]; · iexact L1
        isplitl [L3]; · iexact L3
        iexact L7
      isplitl [KP1 L2 L4 L8]
      · iapply (arr_free m ρ c (.P 1))
        iapply (back_P1 m ρ c)
        isplitl [KP1]; · iexact KP1
        isplitl [L2]; · iexact L2
        isplitl [L4]; · iexact L4
        iexact L8
      isplitl [KP2 L5 L9]
      · iapply (arr_free m ρ c (.P 2))
        iapply (back_P2 m ρ c)
        isplitl [KP2]; · iexact KP2
        isplitl [L5]; · iexact L5
        iexact L9
      iapply (arr_free m ρ c (.P 3))
      iapply (back_P3 m ρ c)
      isplitl [KP3]; · iexact KP3
      isplitl [L6]; · iexact L6
      iexact L10
    isplitl [KZ00 L11 VZ01 VZ02]
    · isplitl [KZ00 L11]
      · iapply (arr_free m ρ c (.Z 0 0))
        iapply (back_Z m ρ c 11 rfl)
        isplitl [KZ00]; · iexact KZ00
        iexact L11
      isplitl [VZ01]
      · iapply (arr_free m ρ c (.Z 0 1))
        iexact VZ01
      iapply (arr_free m ρ c (.Z 0 2))
      iexact VZ02
    isplitl [KZ10 L12 VZ11 VZ12]
    · isplitl [KZ10 L12]
      · iapply (arr_free m ρ c (.Z 1 0))
        iapply (back_Z m ρ c 12 rfl)
        isplitl [KZ10]; · iexact KZ10
        iexact L12
      isplitl [VZ11]
      · iapply (arr_free m ρ c (.Z 1 1))
        iexact VZ11
      iapply (arr_free m ρ c (.Z 1 2))
      iexact VZ12
    isplitl [VZ20 KZ21 L13 VZ22]
    · isplitl [VZ20]
      · iapply (arr_free m ρ c (.Z 2 0))
        iexact VZ20
      isplitl [KZ21 L13]
      · iapply (arr_free m ρ c (.Z 2 1))
        iapply (back_Z m ρ c 13 rfl)
        isplitl [KZ21]; · iexact KZ21
        iexact L13
      iapply (arr_free m ρ c (.Z 2 2))
      iexact VZ22
    isplitl [VZ30]
    · iapply (arr_free m ρ c (.Z 3 0))
      iexact VZ30
    isplitl [KZ31 L14]
    · iapply (arr_free m ρ c (.Z 3 1))
      iapply (back_Z m ρ c 14 rfl)
      isplitl [KZ31]; · iexact KZ31
      iexact L14
    iapply (arr_free m ρ c (.Z 3 2))
    iexact VZ32
  isplitl [X0 X1 X2 X3 X4 X5 X6 X7 X8 X9 X10 X11 X12 X13 X14]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    iexact X14
  isplitl [Y0 Y1 Y2 Y3 Y4 Y5 Y6 Y7 Y8 Y9 Y10 Y11 Y12 Y13 Y14]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11]; · iexact Y11
    isplitl [Y12]; · iexact Y12
    isplitl [Y13]; · iexact Y13
    iexact Y14
  iexact O

end Cert.Gather

end
-- ==== Proof.Launch.lean ====
/-
# 01_k — the run of the whole program

The pipeline's data and the body's obligation, what the launch deals each device, and the run: it ends, with every semaphore at
zero, and the three arrays at known contents.
-/
module

public import proofs.«01_k».proof.Proof.Body
public import proofs.«01_k».proof.Proof.Gen.KernelIdeal.Launch
public import Idealize.ShloMosaic.Lib.Pipeline.CollectiveSegs

@[expose] public section

set_option maxRecDepth 16384

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Iterated conjunctions, split -/

/-- Over a device's cells: the transfers' and the barrier's. -/
theorem over_cells (Φ : Cid → sProp 𝕄) : bigSep Finset.univ Φ = iprop((bigSep Finset.univ fun x : Bool × Fin 15 => Φ (some x)) ∗ Φ none) := by
  rw [bigSep_univ_equiv (Equiv.optionEquivSumPUnit.{0} (Bool × Fin 15)).symm Φ, bigSep_univ_sum, bigSep_univ_of_subsingleton PUnit.unit.{1}]
  rfl

/-- Over the transfers' cells: the send cells and the receive cells. -/
theorem over_ends (Φ : Bool × Fin 15 → sProp 𝕄) :
    bigSep Finset.univ Φ = iprop((bigSep Finset.univ fun t : Fin 15 => Φ (false, t)) ∗ bigSep Finset.univ fun t : Fin 15 => Φ (true, t)) := by
  rw [bigSep_univ_prod, bigSep_univ_eq_bigSepL [false, true] (by decide) (by decide)]
  rfl

/-- Over the transfers, one by one. -/
theorem over_transfers (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- Over the four neighbours, one by one. -/
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- What every device holds for each of its duties, dealt instead to the devices a permutation of each duty names. -/
theorem dealt {J : Type} [Fintype J] (e : J → Dev nD ≃ Dev nD) (Φ : Dev nD → J → sProp 𝕄) :
    (bigSep Finset.univ fun c => bigSep Finset.univ fun j => Φ c j) = bigSep Finset.univ fun c => bigSep Finset.univ fun j => Φ (e j c) j := by
  rw [bigSep_univ_comm, bigSep_univ_comm (fun c j => Φ (e j c) j)]
  exact bigSep_congr fun j _ => bigSep_univ_equiv (e j) fun c => Φ c j

/-! ## The pipeline's data -/

/-- What a device starts the body from, but for its buffers: the records, its tokens, credits and positions. -/
def start (c : Dev nD) : sProp 𝕄 := iprop(∃ K, know m ρ K ∗ meeting c ∗ readies c ∗ arrivals c)

/-- The two scratch buffers at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the body: the scratch buffers again, and every counter at zero. -/
def Φ₁ (c : Dev nD) : sProp 𝕄 := iprop(scratch (F := F) c ∗ (sentZero c ∗ recvZero c) ∗ semVal (barC c) 0)

/-- The data of the one pallas_call on device `c`: the operands' blocks stay, the result is the product of the whole left operand
    with the device's block of the right one, blocks of rows at a time. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => wv m ρ c
    | ⟨2, _⟩ => resv m ρ c
  Φ t := match t with
    | ⟨0, _⟩ => Φ₀ m ρ c
    | ⟨_ + 1, _⟩ => Φ₁ c
  q _ := fullShare
  owed t := match t with
    | ⟨0, _⟩ => owed c allPays
    | ⟨_ + 1, _⟩ => owed c []

theorem cfg0_N : cfg0.N = 1 := by decide
/-- The grid's one point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

theorem over_windows (Φ : Fin cfg0.W → sProp 𝕄) : bigSep Finset.univ Φ = iprop(Φ (0 : Fin 3) ∗ Φ (1 : Fin 3) ∗ Φ (2 : Fin 3)) := bigSep_W0 Φ

/-- A staging buffer's elements at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body's obligation -/

/-- All slots, buffer by buffer. -/
theorem slots_eq (c : Dev nD) : (slotsFree c : sProp 𝕄)
    = iprop((bigSep Finset.univ fun i : Fin 4 => free c (.P i)) ∗ bigSep Finset.univ fun x : Fin 4 × Fin 3 => free c (.Z x.1 x.2)) := by
  rw [bigSep_univ_prod, over_four, over_four]
  simp only [bigSep_W0]
  rfl

/-- The scratch buffers fall into the slots, -/
theorem scratch_split (c : Dev nD) : (scratch c : sProp 𝕄) ⊢ slotsFree c := by
  rw [slots_eq]; exact BIClass.sep_mono (split_P c) (split_Z c)
/-- and the slots make them up again. -/
theorem scratch_join (c : Dev nD) : (slotsFree c : sProp 𝕄) ⊢ scratch c := by
  rw [slots_eq]; exact BIClass.sep_mono (join_P c) (join_Z c)

/-- The sixteen stores cover the rows of every device's block. -/
theorem stored_all (c : Dev nD) : ∀ o, ∃ s ∈ stored, org s c = o := by revert c; decide

/-- What the body is given at the grid's point, and what it leaves. -/
def pointPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
@[inherit_doc pointPre] def pointPost (c : Dev nD) : sProp 𝕄 :=
  iprop(Φ₁ c ∗ (dats m ρ 0 c).owesAt () t₀.succ ∗ stg c cc0_stg0_0 (xv m ρ c) ∗ stg c cc0_stg1_0 (wv m ρ c) ∗ stg c cc0_stg2_0 (resv m ρ c))

/-- The body at the grid's point. -/
theorem point_run (c : Dev nD) :
    (pointPre m ρ c : sProp 𝕄) ⊢ WP c (cc0_body (F := F) xB (Memref.isWhole_whole _) wB (Memref.isWhole_whole _) oB (Memref.isWhole_whole _) pB (Memref.isWhole_whole _)
      zB (Memref.isWhole_whole _) cc0_scratch2 cc0_scratch3 cc0_scratch4 cc0_scratch5 cc0_scratch6 cc0_scratch7) (fun _ => pointPost m ρ c) := by
  unfold pointPre Φ₀ start
  iintro ⟨⟨⟨%K, #Hk, HM, HR, HA⟩, HS⟩, Ho, ⟨%d0, %g0, %hg0, Hx⟩, ⟨%d1, %g1, %hg1, Hw⟩, ⟨%d2, %g2, %hg2, Hout⟩⟩
  have hx : g0 = xv m ρ c := by rw [hg0]; unfold Dat.before; rw [if_pos (fetch_x t₀)]; rfl
  have hw : g1 = wv m ρ c := by rw [hg1]; unfold Dat.before; rw [if_pos (fetch_w t₀)]; rfl
  subst hx; subst hw
  unfold Dat.owesAt Pipeline.owesWithin
  icases Ho with ⟨%W, %hW, HO⟩
  iapply (run_body m ρ K c) $$ [HM HR HA HS Hx Hw Hout HO]
  · unfold bodyIn operands dues
    isplitr; · iexact Hk
    isplitl [HO]; · iexists W; iexact HO
    isplitl [HM]; · iexact HM
    isplitl [HS]; · iapply (scratch_split c); iexact HS
    isplitl [Hx Hw]
    · isplitl [Hx]; · iexact Hx
      iexact Hw
    isplitl [HR]; · iexact HR
    isplitl [HA]; · iexact HA
    iapply (out_start m ρ c g2); iexact Hout
  unfold bodyOut operands dues
  iintro ⟨⟨%W', HO⟩, HB, ⟨Hx, Hw⟩, HS, HX, HY, HOut⟩
  unfold pointPost Φ₁ Dat.owesAt Pipeline.owesWithin
  isplitl [HS HX HY HB]
  · isplitl [HS]; · iapply (scratch_join c); iexact HS
    isplitl [HX HY]
    · isplitl [HX]; · iexact HX
      iexact HY
    iexact HB
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iapply (out_done m ρ c stored (stored_all c)); iexact HOut

/-- The library's obligation of the body. -/
theorem body_obligation (c : Dev nD) : BodyObligation (dats (F := F) m ρ 0 c) (defs₀ (F := F)) 𝒱₀ () Set.univ := fun t => by
  rw [fin_N t]
  rw [over_windows, over_windows]
  simp only [owns_staged]
  exact point_run m ρ c

/-! ## What the launch deals -/

/-- The transfers' semaphores are the kernel's own, -/
abbrev osem (x : Bool × Fin 15) : SemLoc sig := csem (some x)
theorem ownSemFacts : Pipeline.OwnSemFacts cfg0.spec osem := by decide

theorem share_eq (c : Dev nD) (w : Fin cfg0.W) : (dats m ρ 0 c).share w = fullShare := by unfold Dat.share; split <;> rfl

abbrev cellAt (x : Dev nD × Cid) : GSem nD τ sig := cell x.1 x.2
theorem cellAt_injective : Function.Injective cellAt := by
  rintro ⟨c, i⟩ ⟨c', i'⟩ h
  have h1 : c = c' := congrArg (fun g : GSem nD τ sig => g.1.1) h
  have h2 : i = i' := csem_injective (congrArg Prod.snd h)
  rw [h1, h2]
/-- All cells. -/
def allCells : Finset (GSem nD τ sig) := Finset.univ.map ⟨cellAt, cellAt_injective⟩

/-- A duty of a device's cells: one of the barrier's four, or the one of a transfer's cell. -/
abbrev Duty : Type := Fin 4 ⊕ (Bool × Fin 15)
abbrev tokAt (x : Dev nD × Duty) : GSem nD τ sig × ℕ × Fin 4 := match x.2 with
  | .inl k => (barC x.1, 0, k)
  | .inr y => (cell x.1 (some y), 0, 0)
theorem tokAt_injective : Function.Injective tokAt := by
  rintro ⟨c, j⟩ ⟨c', j'⟩ h
  have h1 : c = c' := by
    have := congrArg (fun x : GSem nD τ sig × ℕ × Fin 4 => x.1.1.1) h
    rcases j with k | y <;> rcases j' with k' | y' <;> exact this
  subst h1
  rcases j with k | y <;> rcases j' with k' | y'
  · have : k = k' := congrArg (fun x : GSem nD τ sig × ℕ × Fin 4 => x.2.2) h
    rw [this]
  · have : (none : Cid) = some y' := csem_injective (congrArg (fun x : GSem nD τ sig × ℕ × Fin 4 => x.1.2) h)
    exact absurd this (by simp)
  · have : some y = (none : Cid) := csem_injective (congrArg (fun x : GSem nD τ sig × ℕ × Fin 4 => x.1.2) h)
    exact absurd this (by simp)
  · have : some y = some y' := csem_injective (congrArg (fun x : GSem nD τ sig × ℕ × Fin 4 => x.1.2) h)
    rw [Option.some.inj this]
/-- All duty tokens. -/
def allToks : Finset (GSem nD τ sig × ℕ × Fin 4) := Finset.univ.map ⟨tokAt, tokAt_injective⟩

/-- The launch's element: the pipeline's and the protocol's. -/
def u₀ : UU := (initOf (Pipeline.cells cfgs cellOf_inj) (Pipeline.launchToks cfgs cellOf_inj), initOf allCells allToks)

/-- The duty tokens of a device's own cells, -/
def ownToks (c : Dev nD) : sProp 𝕄 :=
  iprop((bigSep Finset.univ fun k : Fin 4 => dutyTok ER (barC c) 0 k)
    ∗ (bigSep Finset.univ fun t : Fin 15 => dutyTok ER (sndC c t) 0 0) ∗ (bigSep Finset.univ fun t : Fin 15 => dutyTok ER (rcvC c t) 0 0))
/-- and of the duties it pays. -/
def payToks (c : Dev nD) : sProp 𝕄 :=
  iprop((bigSep Finset.univ fun k : Fin 4 => dutyTok ER (barC (nbE k c)) 0 k)
    ∗ (bigSep Finset.univ fun t : Fin 15 => dutyTok ER (sndC c t) 0 0) ∗ (bigSep Finset.univ fun t : Fin 15 => dutyTok ER (rcvC (nbE (tnb t) c) t) 0 0))
/-- A device's positions. -/
def places (c : Dev nD) : sProp 𝕄 := bigSep Finset.univ fun i : Cid => atPos ER (cell c i) 0 ∅ 0

/-- What the launch element deals a device, -/
def G (c : Dev nD) : sProp 𝕄 :=
  iprop((bigSep Finset.univ fun i : Cid => roundState ER (Rd m ρ) (cell c i) 0)
    ∗ (bigSep Finset.univ fun i : Cid => iprop(atPos ER (cell c i) 0 ∅ 0 ∗ reached ER (cell c i) 0)) ∗ ownToks c)
/-- and what it holds once the cells are open to all. -/
def G' (c : Dev nD) : sProp 𝕄 := iprop(∃ K, records m ρ K ∗ places c ∗ payToks c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i : Cid => Φ (cell c i) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, over_ends]; rfl
  iintro H
  imod (Rounds.fund ER (Rd m ρ) allCells allToks) $$ H with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem ownSems0_eq (c : Dev nD) : (Pipeline.ownSems0 (Ix := Unit) (Name := ℕ) (U := UU) (Lvl := ℕ) (Val := Elt F) (τ := τ) osem c : sProp 𝕄)
    = bigSep Finset.univ fun x : Bool × Fin 15 => semVal (cell c (some x)) 0 := rfl
/-- the barrier's semaphore the one that outlives the call. -/
theorem unscopedSems0_eq (c : Dev nD) : (unscopedSems0 c : sProp 𝕄) = semVal (barC c) 0 := by
  unfold unscopedSems0; rw [bigSep_eq_bigSepL_of_eq [SemLoc.reg barS] (by decide) (by decide)]; rfl

/-- One device's cells, opened. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Cid => iprop(∃ κ : ℕ, cellInv ER (Rd m ρ) κ (cell c i)))
          ∗ (bigSep Finset.univ fun i : Cid => iprop(atPos ER (cell c i) 0 ∅ 0 ∗ reached ER (cell c i) 0)) ∗ ownToks c) := by
  have hv : iprop(Pipeline.ownSems0 (Ix := Unit) (Name := ℕ) (U := UU) (Lvl := ℕ) (Val := Elt F) (τ := τ) osem c ∗ unscopedSems0 c)
      ⊢ (bigSep Finset.univ fun i : Cid => semVal (cell c i) 0 : sProp 𝕄) := by
    rw [ownSems0_eq, unscopedSems0_eq, over_cells]
  have ho : iprop((bigSep Finset.univ fun i : Cid => semVal (cell c i) 0) ∗ bigSep Finset.univ fun i : Cid => roundState ER (Rd m ρ) (cell c i) 0)
      ⊢ (|={Set.univ}=> bigSep Finset.univ fun i : Cid => iprop(∃ κ : ℕ, cellInv ER (Rd m ρ) κ (cell c i)) : sProp 𝕄) := by
    rw [← bigSep_sep']
    exact (bigSep_mono fun i _ => (Rounds.body_intro ER (Rd m ρ) (cell c i)).trans inv_alloc).trans (bigSep_fupd _ _)
  unfold G
  iintro ⟨Hos, Hus, Hst, Hat, Htok⟩
  imod ho $$ [Hos Hus Hst] with Hinv
  · isplitl [Hos Hus]
    · iapply hv
      isplitl [Hos]; · iexact Hos
      iexact Hus
    iexact Hst
  imodintro
  isplitl [Hinv]; · iexact Hinv
  isplitl [Hat]; · iexact Hat
  iexact Htok

/-- The tokens, dealt to the devices that pay with them. -/
theorem deal_toks : (bigSep Finset.univ fun c : Dev nD => (ownToks c : sProp 𝕄)) = bigSep Finset.univ fun c : Dev nD => payToks c := by
  unfold ownToks payToks
  simp only [bigSep_sep']
  rw [dealt (fun k : Fin 4 => nbE k) (fun c k => (dutyTok ER (barC c) 0 k : sProp 𝕄)),
    dealt (fun t : Fin 15 => nbE (tnb t)) (fun c t => (dutyTok ER (rcvC c t) 0 0 : sProp 𝕄))]

/-- The open cells of all devices, known to each. -/
theorem regroup :
    (bigSep Finset.univ fun c : Dev nD => iprop((bigSep Finset.univ fun i : Cid => iprop(∃ κ : ℕ, cellInv ER (Rd m ρ) κ (cell c i)))
          ∗ (bigSep Finset.univ fun i : Cid => iprop(atPos ER (cell c i) 0 ∅ 0 ∗ reached ER (cell c i) 0)) ∗ ownToks c) : sProp 𝕄)
      ⊢ bigSep Finset.univ (G' m ρ) := by
  have hs (c : Dev nD) : (bigSep Finset.univ fun i : Cid => iprop(atPos ER (cell c i) 0 ∅ 0 ∗ reached ER (cell c i) 0) : sProp 𝕄)
      = iprop(places c ∗ bigSep Finset.univ fun i : Cid => reached ER (cell c i) 0) := bigSep_sep' _ _ _
  simp only [hs, bigSep_sep']
  rw [deal_toks, ← bigSep_univ_prod (fun x : Dev nD × Cid => iprop(∃ κ : ℕ, cellInv ER (Rd m ρ) κ (cellAt x))),
    ← bigSep_univ_prod (fun x : Dev nD × Cid => (reached ER (cellAt x) 0 : sProp 𝕄))]
  iintro ⟨HI, ⟨Hat, #HR⟩, Htok⟩
  ihave HK := (BI.bigSep_exists_pi Finset.univ (fun (x : Dev nD × Cid) (κ : ℕ) => (cellInv ER (Rd m ρ) κ (cellAt x) : sProp 𝕄))) $$ HI
  icases HK with ⟨%K, #HI⟩
  have hg (c : Dev nD) : iprop(records m ρ K ∗ (places c ∗ payToks c)) ⊢ (G' m ρ c : sProp 𝕄) := by
    unfold G'; iintro H; iexists K; iexact H
  iapply (bigSep_with_persistent (R := records m ρ K) fun c _ => hg c)
  isplitr
  · unfold records
    rw [bigSep_sep']
    isplitr; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The credits -/

/-- The credit a device gets for a list of payments that every device makes. -/
def gets (c : Dev nD) : List Pay → sProp 𝕄
  | [] => iprop(emp)
  | p :: l => iprop(gets c l ∗ cred (tallyAt (cell c (pcid p)) () (pamt p)))

theorem gets_of (l : List Pay) (c : Dev nD) : (Pipeline.launchCred (fun d => owed d l) c : sProp 𝕄) ⊢ gets c l := by
  induction l with
  | nil => exact Entails.of_eq (Pipeline.launchCred_zero c)
  | cons p l ih =>
    have h1 : (Pipeline.launchCred (fun d => owed d (p :: l)) c : sProp 𝕄)
        = iprop(Pipeline.launchCred (fun d => owed d l) c ∗ Pipeline.launchCred (fun d => ptally d p) c) := Pipeline.launchCred_add _ _ c
    have h2 : (Pipeline.launchCred (fun d => ptally d p) c : sProp 𝕄) ⊢ cred (tallyAt (cell c (pcid p)) () (pamt p)) :=
      Pipeline.launchCred_tallyAt (csem (pcid p)) (ptgt p) (ptgt p).symm (ptgt p).apply_symm_apply (ptgt p).symm_apply_apply () (pamt p) c
    rw [h1]
    unfold gets
    iintro ⟨H, Hp⟩
    isplitl [H]; · iapply ih; iexact H
    iapply h2; iexact Hp

/-- The barrier's four units make its credit of four. -/
theorem four_units (c : Dev nD) :
    iprop(cred (tallyAt (barC c) () 1) ∗ cred (tallyAt (barC c) () 1) ∗ cred (tallyAt (barC c) () 1) ∗ cred (tallyAt (barC c) () 1)) ⊢ (cred (tallyAt (barC c) () 4) : sProp 𝕄) := by
  have h (a b : ℕ) : iprop(cred (tallyAt (barC c) () a) ∗ cred (tallyAt (barC c) () b)) ⊢ (cred (tallyAt (barC c) () (a + b)) : sProp 𝕄) := by
    rw [← tallyAt_add]; exact (cred_add _ _).2
  iintro ⟨H1, H2, H3, H4⟩
  iapply (h 1 3)
  isplitl [H1]; · iexact H1
  iapply (h 1 2)
  isplitl [H2]; · iexact H2
  iapply (h 1 1)
  isplitl [H3]; · iexact H3
  iexact H4

/-- The credit of the barrier cell and of the fifteen receive cells. -/
def credits (c : Dev nD) : sProp 𝕄 := iprop(cred (tallyAt (barC c) () 4) ∗ bigSep Finset.univ fun t : Fin 15 => cred (tallyAt (rcvC c t) () N))

theorem credits_of (c : Dev nD) : (Pipeline.launchCred (fun d => owed d allPays) c : sProp 𝕄) ⊢ credits c := by
  refine (gets_of allPays c).trans ?_
  unfold allPays order credits
  rw [over_transfers]
  simp only [gets]
  iintro ⟨⟨⟨⟨⟨⟨⟨⟨⟨⟨⟨⟨⟨⟨⟨⟨⟨⟨⟨-, H14⟩, H13⟩, H12⟩, H11⟩, H10⟩, H6⟩, H9⟩, H5⟩, H8⟩, H4⟩, H2⟩, H7⟩, H3⟩, H1⟩, H0⟩, B3⟩, B2⟩, B1⟩, B0⟩
  isplitl [B0 B1 B2 B3]
  · iapply (four_units c)
    isplitl [B0]; · iexact B0
    isplitl [B1]; · iexact B1
    isplitl [B2]; · iexact B2
    iexact B3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-! ## The launch theorem's side conditions -/

theorem readies_eq (c : Dev nD) : (readies c : sProp 𝕄) = iprop((bigSep Finset.univ fun t : Fin 15 => dutyTok ER (sndC c t) 0 0)
    ∗ (bigSep Finset.univ fun t : Fin 15 => dutyTok ER (rcvC (nbE (tnb t) c) t) 0 0) ∗ (bigSep Finset.univ fun t : Fin 15 => atPos ER (sndC c t) 0 ∅ 0)) := by
  rw [← bigSep_sep', ← bigSep_sep']
  exact (over_transfers (F := F) fun t => ready c t).symm
theorem arrivals_eq (c : Dev nD) : (arrivals c : sProp 𝕄) = iprop((bigSep Finset.univ fun t : Fin 15 => cred (tallyAt (rcvC c t) () N))
    ∗ (bigSep Finset.univ fun t : Fin 15 => atPos ER (rcvC c t) 0 ∅ 0)) := by
  rw [← bigSep_sep']
  exact (over_transfers (F := F) fun t => awaited c t).symm
theorem places_eq (c : Dev nD) : (places c : sProp 𝕄) = iprop(((bigSep Finset.univ fun t : Fin 15 => atPos ER (sndC c t) 0 ∅ 0)
    ∗ (bigSep Finset.univ fun t : Fin 15 => atPos ER (rcvC c t) 0 ∅ 0)) ∗ atPos ER (barC c) 0 ∅ 0) := by
  unfold places
  rw [over_cells, over_ends]
theorem zeros_eq (c : Dev nD) : (bigSep Finset.univ fun x : Bool × Fin 15 => semVal (cell c (some x)) 0 : sProp 𝕄) = iprop(sentZero c ∗ recvZero c) := by
  rw [over_ends, over_transfers, over_transfers]
  rfl

theorem start_intro (c : Dev nD) :
    iprop(Pipeline.unscopedRestP Pipeline.Prefetch.none cfg0.spec c (fun b => m ((c : Thread nD τ).loc b)) ∗ levAts L lv
        ∗ Pipeline.launchCred (fun d => owed d allPays) c ∗ prngReg c (ρ c) ∗ G' m ρ c)
      ⊢ |={Set.univ}=> iprop(start m ρ c ∗ emp) := by
  have hc := credits_of (F := F) c
  unfold G' payToks
  rw [places_eq, over_four]
  iintro ⟨-, #Hlev, Hcr, -, ⟨%K, #HK, ⟨⟨HaS, HaR⟩, HaB⟩, HtB, HtS, HtR⟩⟩
  ihave Hc := hc $$ Hcr
  unfold credits
  icases Hc with ⟨HB, HV⟩
  imodintro
  isplitl
  · unfold start know meeting
    iexists K
    isplitr
    · isplitr; · iexact HK
      iexact Hlev
    isplitl [HtB HB HaB]
    · isplitl [HtB]; · iexact HtB
      isplitl [HB]; · iexact HB
      iexact HaB
    rw [readies_eq, arrivals_eq]
    isplitl [HtS HtR HaS]
    · isplitl [HtS]; · iexact HtS
      isplitl [HtR]; · iexact HtR
      iexact HaS
    isplitl [HV]; · iexact HV
    iexact HaR
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, zeros_eq]
  unfold Φ₁ scratch
  iintro ⟨Hr, Hz, HB⟩
  isplitl [HB]; · iexact HB
  isplitl [Hz]; · iexact Hz
  iexact Hr

/-- The staging semaphores lie below every level owed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ allPays (by fin_cases w <;> fin_cases s <;> decide)
    · exact mayWait c _ [] (fun p hp => absurd hp List.not_mem_nil)

/-! ## The run -/

/-- A device's array of a window at the end. -/
def finalA (c : Dev nD) (w : Fin cfg0.W) : Buf (Elt F) ((cfg0.win w).arr.view.loc (c : Thread nD τ)) := (dats m ρ 0 c).arrAt w cfg0.N

/-- Every array is at its final contents. -/
def QC : PUnit × MemSt nD τ sig (Elt F) → Prop := fun r =>
  ∀ c : Dev nD, ∀ w : Fin cfg0.W, r.2.mem ((cfg0.win w).arr.view.loc (c : Thread nD τ)) = finalA m ρ c w

/-- On sixteen devices, at any float values, from any memory with all counters zero: every fair execution of the program ends, no
    fault occurring, with every array at its final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d allPays) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Gather

end
-- ==== Proof.Value.lean ====
/-
# 01_k — the value of the result

What the arrays hold at the end of the run, and, in exact arithmetic, that the result of each device is its 64 columns of the
reference's result: row `i` of the whole product is made of row `i` of the whole left argument, which is row `i % 64` of the
block of device `i / 64`.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.KernelVsHost
public import Idealize.ShloMosaic.Lib.StackMember
public import Idealize.ShloMosaic.Lib.Layout

@[expose] public section

set_option maxRecDepth 16384

noncomputable section

namespace Cert.Gather

open Cert.KernelIdeal Cert.KernelIdeal.Gen
open Idealize.ShloMosaic
open Idealize.ShloMosaic.TcCoe
open Idealize.ShloMosaic.ValueIdx
open Idealize.SL.Sem

section Arrays
variable {F : FTy → Type} [FloatOps F]
variable (m : (ℓ : Loc nD τ sig) → Buf (Elt F) ℓ) (ρ : Dev nD → PrngReg) (c : Dev nD)

/-! ## The arrays at the end -/

/-- The left argument is as it was. -/
theorem end_x : finalA m ρ c (0 : Fin 3) = m ((c : Thread nD τ).loc main_arg0) := (dats (F := F) m ρ 0 c).arrAt_in (0 : Fin 3) rfl _
/-- So is the right argument. -/
theorem end_w : finalA m ρ c (1 : Fin 3) = m ((c : Thread nD τ).loc main_arg1) := (dats (F := F) m ρ 0 c).arrAt_in (1 : Fin 3) rfl _

/-- What device `c` starts with on the left is its whole left argument. -/
theorem xv_eq : xv m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- What it multiplies by is its whole right argument. -/
theorem wv_eq : wv m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- The result's array holds what the body left for it. -/
theorem end_res : finalA m ρ c (2 : Fin 3) = resv m ρ c := by
  have h : (win0_2.blk (0 : Fin 1)).view.read (Elt F) (finalA m ρ c (2 : Fin 3)) = resv m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

end Arrays

/-! ## The frames -/

/-- At any float values the program runs, leaves its arguments alone and ends with every semaphore at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun _ h => ⟨fun c => ⟨(h.1 c (0 : Fin 3)).trans (end_x m ρ c), (h.1 c (1 : Fin 3)).trans (end_w m ρ c)⟩, h.2⟩) (run_main m ρ)

section Same
variable {F : FTy → Type} [FloatOps F]

/-- The kernel's body has the same text in both programs. -/
theorem body_same : Cert.Kernel.cc0_body (F := F) = cc0_body (F := F) := rfl

/-- So have their tables of bodies. -/
theorem bodies_same : Cert.Kernel.defs₀ (F := F) = defs₀ (F := F) := by
  unfold Cert.Kernel.defs₀ defs₀
  refine congrArg (Defs.onTc (nD := nD) (τ := τ) (sig := sig) (Λ := Λ₀)) ?_
  funext ℓ x
  match ℓ, x with
  | 0, (t, s) => rfl

/-- So have the whole programs. -/
theorem defs_same : Cert.Kernel.defs (F := F) = defs (F := F) := congrArg (Pipeline.defs pcfgs) bodies_same

end Same

/-- So does the program as compiled, whose text is the same. -/
theorem frame_kernel : Cert.quiescent_Kernel (hKernel := Cert.Kernel.Gen.facts) := fun m ρ _ => by
  have h := frame_any (F := Bits) m ρ
  rw [← defs_same] at h
  exact h

/-- So does the program in exact arithmetic. -/
theorem frame_ideal : Cert.quiescent_KernelIdeal := fun m ρ _ => frame_any (F := Ideal) m ρ

/-- So does the reference, which declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-! ## The result, element by element -/

/-- The reference's result from its arguments, as its operations compose. -/
def wanted (X W : FVec Ideal ReferenceIdeal.S1024x1024 .bf16) : FVec Ideal ReferenceIdeal.S1024x1024 .f32 :=
  maximumf (extf .f32 (truncf .bf16 (Host.dotGeneral ReferenceIdeal.dot_S1024x1024_S1024x1024_S1024x1024_1_0_0_1_n_n none X W) ReferenceIdeal.Gen.facts.bitsLt_bf16_f32) ReferenceIdeal.Gen.facts.bitsLt_bf16_f32)
    (broadcastInDim ReferenceIdeal.S1024x1024 ![] ReferenceIdeal.Gen.facts.bcast_S_S1024x1024 (constant ReferenceIdeal.S_ .f32 0x00000000#32))

/-- At row `a` and column `b` it is the larger of zero and the sum of the products along row `a` and column `b`. -/
theorem wanted_apply (X W : FVec Ideal ReferenceIdeal.S1024x1024 .bf16) (a b : Fin 1024) :
    wanted X W (ix2 a b) = max (∑ k : Fin 1024, X (ix2 a k) * W (ix2 k b)) (Ideal.ofBits .f32 0x00000000#32) :=
  congrArg (fun v : EReal => max v (Ideal.ofBits .f32 0x00000000#32)) (StackMember.dotGeneral_plain_apply (m := 1024) (k := 1024) (n := 1024) none X W a b)

/-- So is the product of one block, along the block's row and the weights' column. -/
theorem gemm_apply (w : FVec Ideal S1024x64 .bf16) (X : FVec Ideal S64x1024 .bf16) (a b : Fin 64) :
    gemm w X (ix2 a b) = max (∑ k : Fin 1024, X (ix2 a k) * w (ix2 k b)) (Ideal.ofBits .f32 0x00000000#32) := by
  unfold gemm
  rw [matmul_zero_eq_dotGeneral]
  exact congrArg (fun v : EReal => max v (Ideal.ofBits .f32 0x00000000#32)) (StackMember.dotGeneral_plain_apply (m := 64) (k := 1024) (n := 64) none X w a b)

/-- With the blocks of the whole arguments `X` and `W` on the devices, the result of device `c` is its 64 columns of the
    reference's result. -/
theorem resv_block (m : (ℓ : Loc nD τ sig) → Buf (Elt Ideal) ℓ) (ρ : Dev nD → PrngReg) (c : Dev nD) (X W : FVec Ideal ReferenceIdeal.S1024x1024 .bf16)
    (hX : ∀ d : Dev nD, xv m ρ d = Layout.block S64x1024 ReferenceIdeal.S1024x1024 0 16 d X)
    (hW : wv m ρ c = Layout.block S1024x64 ReferenceIdeal.S1024x1024 1 16 c W) :
    resv m ρ c = Layout.block S1024x64 ReferenceIdeal.S1024x1024 1 16 c (wanted X W) := by
  funext i
  have e₁ : rowIdx i = ix2 (rowIdx i 0) (rowIdx i 1) := eq_ix2 _
  have hc : c.val < 16 := c.isLt
  have h0 : (i 0).val < 1024 := (i 0).isLt
  have h1 : (i 1).val < 64 := (i 1).isLt
  have tl : Layout.Tiles S1024x64 ReferenceIdeal.S1024x1024 1 16 := by decide
  have e₂ : tl.idx c i = ix2 (⟨(i 0).val, h0⟩ : Fin 1024) (⟨c.val * 64 + (i 1).val, by omega⟩ : Fin 1024) := by
    funext a; apply Fin.ext
    match a with
    | ⟨0, _⟩ => rfl
    | ⟨1, _⟩ => rfl
  unfold resv
  rw [Layout.block_apply, e₂, wanted_apply, e₁]
  refine (gemm_apply _ _ _ _).trans ?_
  refine congrArg (fun v : EReal => max v (Ideal.ofBits .f32 0x00000000#32)) (Finset.sum_congr rfl fun k _ => ?_)
  rw [hX, hW, Layout.block_apply, Layout.block_apply]
  refine congrArg₂ (· * ·) (congrArg X ?_) (congrArg W ?_)
  · funext a; apply Fin.ext
    match a with
    | ⟨0, _⟩ =>
      show (i 0).val / 64 * 64 + (i 0).val % 64 = (i 0).val
      omega
    | ⟨1, _⟩ => rfl
  · funext a; apply Fin.ext
    match a with
    | ⟨0, _⟩ => rfl
    | ⟨1, _⟩ => rfl

/-- In exact arithmetic, with their blocks of the reference's arguments on the devices, each device ends with its block of the
    reference's result. -/
theorem same_value : Cert.algebraic_KernelIdeal_ReferenceIdeal := by
  intro m g m' g' _ hag
  refine ⟨wanted (m' (((0 : Dev ReferenceIdeal.nD).tc : Thread _ ReferenceIdeal.τ).loc ReferenceIdeal.main_arg0)) (m' (((0 : Dev ReferenceIdeal.nD).tc : Thread _ ReferenceIdeal.τ).loc ReferenceIdeal.main_arg1)), ?_, ?_⟩
  · refine (θ_run defs _ _).mono (fun _ h c => ⟨(h.1 c (2 : Fin 3)).trans ?_, (h.1 c (0 : Fin 3)).trans (end_x m g c), (h.1 c (1 : Fin 3)).trans (end_w m g c)⟩)
      (run_main (F := Ideal) m g)
    exact (end_res m g c).trans (resv_block m g c _ _ (fun d => (xv_eq m g d).trans (hag d).1) ((wv_eq m g c).trans (hag c).2))
  · exact (θ_run ReferenceIdeal.defs _ _).mono (fun _ h => h 0) (Cert.ReferenceIdeal.Value.run (F := Ideal) m' g')

end Cert.Gather

end
-- ==== Proof.lean ====
/-
# 01_k — the claims together

The witnesses of the facts that the three programs state, then the frames of the kernel, of its reading in exact arithmetic and of
the reference, that no operation was rewritten, and that each device ends with its block of the reference's result
(Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that is claimed of the kernel and the reference. -/
theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.same_value⟩

end Cert.Proof

end
